-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v5_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_v54) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S8x64x32x32 : Shape := ⟨4, ![8, 64, 32, 32]⟩
abbrev S8192x64 : Shape := ⟨2, ![8192, 64]⟩
abbrev S8192 : Shape := ⟨1, ![8192]⟩
abbrev S_ : Shape := ⟨0, ![]⟩

class Facts : Prop where
  bcast_S_S8x64x32x32 : S_.BroadcastsInDim S8x64x32x32 (![] : Fin 0 → Fin S8x64x32x32.rank)
  reducesTo_S8x64x32x32_S_d0_1_2_3 : S8x64x32x32.ReducesTo [0, 1, 2, 3] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : FVec F S8x64x32x32 .f32) (main_arg1 : FVec F S8192x64 .f32) (main_arg2 : FVec F S8192x64 .f32) (main_arg3 : FVec F S8192 .f32) : IVec S_ 1 :=
  let main_v0 : FVec F S8x64x32x32 .f32 := Host.absf main_arg0
  let main_cst : FVec F S_ .f32 := constant S_ .f32 0x7F800000#32
  let main_v1 : FVec F S8x64x32x32 .f32 := broadcastInDim S8x64x32x32 ![] bcast_S_S8x64x32x32 main_cst
  let main_v2 : IVec S8x64x32x32 1 := cmpf .olt main_v0 main_v1
  let main_c : IVec S_ 1 := constantI S_ 1 1#1
  let main_v3 : IVec S_ 1 := (fun x v => Host.reduce IntOp.andi x v reducesTo_S8x64x32x32_S_d0_1_2_3 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S8x64x32x32 : Shape := ⟨4, ![8, 64, 32, 32]⟩
abbrev S8192x64 : Shape := ⟨2, ![8192, 64]⟩
abbrev S8192 : Shape := ⟨1, ![8192]⟩
abbrev S8x32x32x64 : Shape := ⟨4, ![8, 32, 32, 64]⟩
abbrev S64x8192 : Shape := ⟨2, ![64, 8192]⟩
abbrev S1x8192 : Shape := ⟨2, ![1, 8192]⟩
abbrev S8192x8192 : Shape := ⟨2, ![8192, 8192]⟩
abbrev S1x1 : Shape := ⟨2, ![1, 1]⟩
abbrev S256x64 : Shape := ⟨2, ![256, 64]⟩
abbrev S256x8192 : Shape := ⟨2, ![256, 8192]⟩
abbrev S256 : Shape := ⟨1, ![256]⟩
abbrev S256x1 : Shape := ⟨2, ![256, 1]⟩
abbrev S256x128 : Shape := ⟨2, ![256, 128]⟩
abbrev S256x1024 : Shape := ⟨2, ![256, 1024]⟩
abbrev S1x256x64 : Shape := ⟨3, ![1, 256, 64]⟩
abbrev S1 : Shape := ⟨1, ![1]⟩
abbrev S1x1x1 : Shape := ⟨3, ![1, 1, 1]⟩
abbrev S1x1x8192 : Shape := ⟨3, ![1, 1, 8192]⟩
abbrev S_ : Shape := ⟨0, ![]⟩

abbrev nBuf : Space → Nat
  | .hbm => 17
  | .vmem => 12
  | .smem => 1
  | _ => 0

abbrev bufTy : (tb : Table) → Fin (tcTables nBuf tb) → BufTy
  | .hbm, ⟨0, _⟩ => ⟨S8x64x32x32, .f32⟩
  | .hbm, ⟨1, _⟩ => ⟨S8192x64, .f32⟩
  | .hbm, ⟨2, _⟩ => ⟨S8192x64, .f32⟩
  | .hbm, ⟨3, _⟩ => ⟨S8192, .f32⟩
  | .hbm, ⟨4, _⟩ => ⟨S8x32x32x64, .f32⟩
  | .hbm, ⟨5, _⟩ => ⟨S8192x64, .f32⟩
  | .hbm, ⟨6, _⟩ => ⟨S64x8192, .f32⟩
  | .hbm, ⟨7, _⟩ => ⟨S64x8192, .f32⟩
  | .hbm, ⟨8, _⟩ => ⟨S1x8192, .f32⟩
  | .hbm, ⟨9, _⟩ => ⟨S8192x8192, .f32⟩
  | .hbm, ⟨10, _⟩ => ⟨S8192x64, .f32⟩
  | .hbm, ⟨11, _⟩ => ⟨S1x1, .f32⟩
  | .hbm, ⟨12, _⟩ => ⟨S1x1, .f32⟩
  | .hbm, ⟨13, _⟩ => ⟨S8x32x32x64, .f32⟩
  | .hbm, ⟨14, _⟩ => ⟨S8x64x32x32, .f32⟩
  | .hbm, ⟨15, _⟩ => ⟨S_, .f32⟩
  | .hbm, ⟨16, _⟩ => ⟨S_, .f32⟩
  | .local _ .vmem, ⟨0, _⟩ => ⟨S256x64, .f32⟩
  | .local _ .vmem, ⟨1, _⟩ => ⟨S256x64, .f32⟩
  | .local _ .vmem, ⟨2, _⟩ => ⟨S64x8192, .f32⟩
  | .local _ .vmem, ⟨3, _⟩ => ⟨S64x8192, .f32⟩
  | .local _ .vmem, ⟨4, _⟩ => ⟨S1x8192, .f32⟩
  | .local _ .vmem, ⟨5, _⟩ => ⟨S256x8192, .f32⟩
  | .local _ .vmem, ⟨6, _⟩ => ⟨S256x8192, .f32⟩
  | .local _ .vmem, ⟨7, _⟩ => ⟨S256x64, .f32⟩
  | .local _ .vmem, ⟨8, _⟩ => ⟨S256x64, .f32⟩
  | .local _ .vmem, ⟨9, _⟩ => ⟨S1x1, .f32⟩
  | .local _ .vmem, ⟨10, _⟩ => ⟨S1x1, .f32⟩
  | .local _ .vmem, ⟨11, _⟩ => ⟨S1x8192, .f32⟩
  | .local _ .smem, ⟨0, _⟩ => ⟨S1x1, .f32⟩
  | _, _ => ⟨S8x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v711 : BitVec 1 := Scalar.cmpi .eq arg0 c31_i32
  let v712 : BitVec 32 := Scalar.extui v711
  let c0_i32_52 : BitVec 32 := 0#32
  let v713 : BitVec 1 := Scalar.cmpi .ne v712 c0_i32_52
  v713

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8x64x32x32 : Shape := ⟨4, ![8, 64, 32, 32]⟩
abbrev S8192x64 : Shape := ⟨2, ![8192, 64]⟩
abbrev S8192 : Shape := ⟨1, ![8192]⟩
abbrev S8x32x32x64 : Shape := ⟨4, ![8, 32, 32, 64]⟩
abbrev S64x8192 : Shape := ⟨2, ![64, 8192]⟩
abbrev S8192x8192 : Shape := ⟨2, ![8192, 8192]⟩
abbrev S1x8192 : Shape := ⟨2, ![1, 8192]⟩
abbrev S_ : Shape := ⟨0, ![]⟩
abbrev S8192x1 : Shape := ⟨2, ![8192, 1]⟩
abbrev S8192x8 : Shape := ⟨2, ![8192, 8]⟩
abbrev S8192x8x1 : Shape := ⟨3, ![8192, 8, 1]⟩
abbrev S8192x8x2 : Shape := ⟨3, ![8192, 8, 2]⟩

abbrev nBuf : Space → Nat
  | .hbm => 105
  | .vmem => 0
  | .smem => 0
  | _ => 0

abbrev bufTy : (tb : Table) → Fin (tcTables nBuf tb) → BufTy
  | .hbm, ⟨0, _⟩ => ⟨S8x64x32x32, .f32⟩
  | .hbm, ⟨1, _⟩ => ⟨S8192x64, .f32⟩
  | .hbm, ⟨2, _⟩ => ⟨S8192x64, .f32⟩
  | .hbm, ⟨3, _⟩ => ⟨S8192, .f32⟩
  | .hbm, ⟨4, _⟩ => ⟨S8x32x32x64, .f32⟩
  | .hbm, ⟨5, _⟩ => ⟨S8192x64, .f32⟩
  | .hbm, ⟨6, _⟩ => ⟨S64x8192, .f32⟩
  | .hbm, ⟨7, _⟩ => ⟨S8192x8192, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192x1, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x8192, .f32⟩
  | .hbm, ⟨24, _⟩ => ⟨S8192x8192, .f32⟩
  | .hbm, ⟨25, _⟩ => ⟨S8192x64, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S8192x64, .f32⟩
  | .hbm, ⟨30, _⟩ => ⟨S_, .f32⟩
  | .hbm, ⟨31, _⟩ => ⟨S8192, .f32⟩
  | .hbm, ⟨32, _⟩ => ⟨S1x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S64x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S8192x8, .f32⟩
  | .hbm, ⟨44, _⟩ => ⟨S8192x8, .i32⟩
  | .hbm, ⟨45, _⟩ => ⟨S_, .f32⟩
  | .hbm, ⟨46, _⟩ => ⟨S8192x8192, .f32⟩
  | .hbm, ⟨47, _⟩ => ⟨S8192, .i32⟩
  | .hbm, ⟨48, _⟩ => ⟨S8192x1, .i32⟩
  | .hbm, ⟨49, _⟩ => ⟨S_, .i32⟩
  | .hbm, ⟨50, _⟩ => ⟨S8192x1, .i32⟩
  | .hbm, ⟨51, _⟩ => ⟨S8192x1, .i1⟩
  | .hbm, ⟨52, _⟩ => ⟨S_, .i32⟩
  | .hbm, ⟨53, _⟩ => ⟨S8192x1, .i32⟩
  | .hbm, ⟨54, _⟩ => ⟨S8192x1, .i32⟩
  | .hbm, ⟨55, _⟩ => ⟨S8192x1, .i32⟩
  | .hbm, ⟨56, _⟩ => ⟨S_, .i32⟩
  | .hbm, ⟨57, _⟩ => ⟨S8192x8, .i32⟩
  | .hbm, ⟨58, _⟩ => ⟨S8192x8, .i1⟩
  | .hbm, ⟨59, _⟩ => ⟨S_, .i32⟩
  | .hbm, ⟨60, _⟩ => ⟨S8192x8, .i32⟩
  | .hbm, ⟨61, _⟩ => ⟨S8192x8, .i32⟩
  | .hbm, ⟨62, _⟩ => ⟨S8192x8, .i32⟩
  | .hbm, ⟨63, _⟩ => ⟨S8192x8, .i32⟩
  | .hbm, ⟨64, _⟩ => ⟨S8192x8x1, .i32⟩
  | .hbm, ⟨65, _⟩ => ⟨S8192x8x1, .i32⟩
  | .hbm, ⟨66, _⟩ => ⟨S8192x8x2, .i32⟩
  | .hbm, ⟨67, _⟩ => ⟨S_, .f32⟩
  | .hbm, ⟨68, _⟩ => ⟨S8192x8, .f32⟩
  | .hbm, ⟨69, _⟩ => ⟨S8192x8192, .f32⟩
  | .hbm, ⟨70, _⟩ => ⟨S8192x8192, .f32⟩
  | .hbm, ⟨71, _⟩ => ⟨S_, .f32⟩
  | .hbm, ⟨72, _⟩ => ⟨S8192x8192, .f32⟩
  | .hbm, ⟨73, _⟩ => ⟨S8192x8192, .f32⟩
  | .hbm, ⟨74, _⟩ => ⟨S8192x64, .f32⟩
  | .hbm, ⟨75, _⟩ => ⟨S8x32x32x64, .f32⟩
  | .hbm, ⟨76, _⟩ => ⟨S8x32x32x64, .f32⟩
  | .hbm, ⟨77, _⟩ => ⟨S8x32x32x64, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S8x32x32x64, .f32⟩
  | .hbm, ⟨85, _⟩ => ⟨S8x32x32x64, .f32⟩
  | .hbm, ⟨86, _⟩ => ⟨S_, .f32⟩
  | .hbm, ⟨87, _⟩ => ⟨S8192, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S_, .f32⟩
  | .hbm, ⟨92, _⟩ => ⟨S_, .f32⟩
  | .hbm, ⟨93, _⟩ => ⟨S8192, .f32⟩
  | .hbm, ⟨94, _⟩ => ⟨S8192, .f32⟩
  | .hbm, ⟨95, _⟩ => ⟨S_, .f32⟩
  | .hbm, ⟨96, _⟩ => ⟨S8192, .f32⟩
  | .hbm, ⟨97, _⟩ => ⟨S8192, .f32⟩
  | .hbm, ⟨98, _⟩ => ⟨S8192, .f32⟩
  | .hbm, ⟨99, _⟩ => ⟨S8192, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S8x64x32x32, .f32⟩
  | _, _ => ⟨S8x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_values : Ref sig .tc := ⟨.hbm, 43, rfl⟩
abbrev main_indices : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_7 : Ref sig .tc := ⟨.hbm, 56, rfl⟩
abbrev main_v41 : Ref sig .tc := ⟨.hbm, 57, rfl⟩
abbrev main_v42 : Ref sig .tc := ⟨.hbm, 58, rfl⟩
abbrev main_c_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_14 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_v66 : Ref sig .tc := ⟨.hbm, 90, rfl⟩
abbrev main_cst_16 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_17 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_18 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]
-- ==== Proof.KI.Setup.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Tactic
public import Idealize.ShloMosaic.Lib.WordCmp

@[expose] public section

-- the long axes are walked one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The condition of the body's `scf.if` 1 (`k0_h3`), from the grid coordinates (the skeleton's scalar
    chain substituted). -/
abbrev cond0_1 (i : grid0.Coords) : Prop := k0_cond3 i = 1#1
/-- It holds at the last point only — by arithmetic of the point. -/
theorem hcond0_1 : ∀ t : Fin cfg0.N, cond0_1 (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [cond0_1, k0_cond3, e0]
    word_cmp
   : ∀ t : Fin grid0.N, cond0_1 (grid0.coords t) ↔ t.val % 32 = 31)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- Window 5 is never idle (an output stored at every point, under no condition). -/
theorem liveAt0_5 : ∀ t : Fin cfg0.N, cfg0.idle 5 (grid0.coords t) = false := fun _ => rfl
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel

/-! ## The kernel body on any staging memrefs: a subtype the run finds -/

/-- One staging buffer of output window 4, through which its contents are stated (`View.read_writes_of_cover`: the
    choice does not matter). -/
abbrev VO0_4 : View sig .tc .vmem S256x8192 .f32 := (Memref.whole cc0_stg4_0 : Memref sig .tc .vmem S256x8192 .f32).view
/-- One staging buffer of output window 5, through which its contents are stated (`View.read_writes_of_cover`: the
    choice does not matter). -/
abbrev VO0_5 : View sig .tc .vmem S256x64 .f32 := (Memref.whole cc0_stg5_0 : Memref sig .tc .vmem S256x64 .f32).view
/-- One staging buffer of output window 6, through which its contents are stated (`View.read_writes_of_cover`: the
    choice does not matter). -/
abbrev VO0_6 : View sig .tc .vmem S1x1 .f32 := (Memref.whole cc0_stg6_0 : Memref sig .tc .vmem S1x1 .f32).view
/-- One staging buffer of output window 7, through which its contents are stated (`View.read_writes_of_cover`: the
    choice does not matter). -/
abbrev VO0_7 : View sig .tc .vmem S1x1 .f32 := (Memref.whole cc0_stg7_0 : Memref sig .tc .vmem S1x1 .f32).view
/-- Each window's current staging memref at point `t`, spelled as the pipeline passes it (`bodyAt0`), and its wholeness. -/
abbrev ms0_0 (t : Fin cfg0.N) : Memref sig .tc .vmem S256x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x8192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1x8192 .f32 := Memref.whole cc0_scratch0
abbrev scM0_1 : Memref sig .tc .smem S1x1 .f32 := Memref.whole cc0_scratch1
/-- The scratch `arg9` the kernel carries between points, as a view: what it holds is stated through it. -/
abbrev VS0_0 : View sig .tc .vmem S1x8192 .f32 := scM0_0.view
/-- The scratch `arg10` the kernel carries between points, as a view: what it holds is stated through it. -/
abbrev VS0_1 : View sig .tc .smem S1x1 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KI.Net.lean ====
module

public import proofs.«01_k».proof.Proof.Gen.KernelIdeal.Skeleton

@[expose] public section

/-! The values that the kernel's body computes before it stores anything, each named after the value it is in the
    printed body, as functions of the block of inputs `x0` and the dictionary `x2`. -/

noncomputable section

namespace Cert.KernelIdeal.Hand

open Idealize.ShloMosaic Cert.KernelIdeal Cert.KernelIdeal.Gen

variable {F : FTy → Type} [FloatOps F]
variable (x0 : FVec F S256x64 .f32) (x2 : FVec F S64x8192 .f32)

def n30 : FVec F S256x8192 .f32 := k0_pay18 x0 x2
def n31 : FVec F S256x128 .f32 := k0_pay19 x0 x2
def n32 : FVec F S256x128 .f32 := k0_pay20 x0 x2
def n33 : FVec F S256x128 .f32 := k0_pay21 x0 x2
def n34 : FVec F S256x128 .f32 := k0_pay22 x0 x2
def n35 : FVec F S256x128 .f32 := k0_pay23 x0 x2
def n36 : FVec F S256x128 .f32 := k0_pay24 x0 x2
def n37 : FVec F S256x128 .f32 := k0_pay25 x0 x2
def n38 : FVec F S256x128 .f32 := k0_pay26 x0 x2
def n39 : FVec F S256x128 .f32 := k0_pay27 x0 x2
def n40 : FVec F S256x128 .f32 := k0_pay28 x0 x2
def n41 : FVec F S256x128 .f32 := k0_pay29 x0 x2
def n42 : FVec F S256x128 .f32 := k0_pay30 x0 x2
def n43 : FVec F S256x128 .f32 := k0_pay31 x0 x2
def n44 : FVec F S256x128 .f32 := k0_pay32 (n30 x0 x2)
def n45 : FVec F S256x128 .f32 := k0_pay33 (n30 x0 x2)
def n46 : FVec F S256x128 .f32 := k0_pay34 (n30 x0 x2)
def n47 : FVec F S256x128 .f32 := k0_pay35 (n30 x0 x2)
def n48 : FVec F S256x128 .f32 := k0_pay36 (n30 x0 x2)
def n49 : FVec F S256x128 .f32 := k0_pay37 (n30 x0 x2)
def n50 : FVec F S256x128 .f32 := k0_pay38 (n30 x0 x2)
def n51 : FVec F S256x128 .f32 := k0_pay39 (n30 x0 x2)
def n52 : FVec F S256x128 .f32 := k0_pay40 (n30 x0 x2)
def n53 : FVec F S256x128 .f32 := k0_pay41 (n30 x0 x2)
def n54 : FVec F S256x128 .f32 := k0_pay42 (n30 x0 x2)
def n55 : FVec F S256x128 .f32 := k0_pay43 (n30 x0 x2)
def n56 : FVec F S256x128 .f32 := k0_pay44 (n30 x0 x2)
def n57 : FVec F S256x128 .f32 := k0_pay45 (n30 x0 x2)
def n58 : FVec F S256x128 .f32 := k0_pay46 (n30 x0 x2)
def n59 : FVec F S256x128 .f32 := k0_pay47 (n30 x0 x2)
def n60 : FVec F S256x128 .f32 := k0_pay48 (n30 x0 x2)
def n61 : FVec F S256x128 .f32 := k0_pay49 (n30 x0 x2)
def n62 : FVec F S256x128 .f32 := k0_pay50 (n30 x0 x2)
def n63 : FVec F S256x128 .f32 := k0_pay51 (n30 x0 x2)
def n64 : FVec F S256x128 .f32 := k0_pay52 (n30 x0 x2)
def n65 : FVec F S256x128 .f32 := k0_pay53 (n30 x0 x2)
def n66 : FVec F S256x128 .f32 := k0_pay54 (n30 x0 x2)
def n67 : FVec F S256x128 .f32 := k0_pay55 (n30 x0 x2)
def n68 : FVec F S256x128 .f32 := k0_pay56 (n30 x0 x2)
def n69 : FVec F S256x128 .f32 := k0_pay57 (n30 x0 x2)
def n70 : FVec F S256x128 .f32 := k0_pay58 (n30 x0 x2)
def n71 : FVec F S256x128 .f32 := k0_pay59 (n30 x0 x2)
def n72 : FVec F S256x128 .f32 := k0_pay60 (n30 x0 x2)
def n73 : FVec F S256x128 .f32 := k0_pay61 (n30 x0 x2)
def n74 : FVec F S256x128 .f32 := k0_pay62 (n30 x0 x2)
def n75 : FVec F S256x128 .f32 := k0_pay63 (n30 x0 x2)
def n76 : FVec F S256x128 .f32 := k0_pay64 (n30 x0 x2)
def n77 : FVec F S256x128 .f32 := k0_pay65 (n30 x0 x2)
def n78 : FVec F S256x128 .f32 := k0_pay66 (n30 x0 x2)
def n79 : FVec F S256x128 .f32 := k0_pay67 (n30 x0 x2)
def n80 : FVec F S256x128 .f32 := k0_pay68 (n30 x0 x2)
def n81 : FVec F S256x128 .f32 := k0_pay69 (n30 x0 x2)
def n82 : FVec F S256x128 .f32 := k0_pay70 (n30 x0 x2)
def n83 : FVec F S256x128 .f32 := k0_pay71 (n30 x0 x2)
def n84 : FVec F S256x128 .f32 := k0_pay72 (n30 x0 x2)
def n85 : FVec F S256x128 .f32 := k0_pay73 (n30 x0 x2)
def n86 : FVec F S256x128 .f32 := k0_pay74 (n30 x0 x2)
def n87 : FVec F S256x128 .f32 := k0_pay75 (n30 x0 x2)
def n88 : FVec F S256x128 .f32 := k0_pay76 (n30 x0 x2)
def n89 : FVec F S256x128 .f32 := k0_pay77 (n30 x0 x2)
def n90 : FVec F S256x128 .f32 := k0_pay78 (n30 x0 x2)
def n91 : FVec F S256x128 .f32 := k0_pay79 (n30 x0 x2)
def n92 : FVec F S256x128 .f32 := k0_pay80 (n30 x0 x2)
def n93 : FVec F S256x128 .f32 := k0_pay81 (n30 x0 x2)
def n94 : FVec F S256x128 .f32 := k0_pay82 (n30 x0 x2)
def n95 : FVec F S256x128 .f32 := k0_pay83 (n31 x0 x2) (n32 x0 x2)
def n96 : FVec F S256x128 .f32 := k0_pay84 (n31 x0 x2) (n32 x0 x2)
def n97 : FVec F S256x128 .f32 := k0_pay85 (n33 x0 x2) (n34 x0 x2)
def n98 : FVec F S256x128 .f32 := k0_pay86 (n33 x0 x2) (n34 x0 x2)
def n99 : FVec F S256x128 .f32 := k0_pay87 (n35 x0 x2) (n36 x0 x2)
def n100 : FVec F S256x128 .f32 := k0_pay88 (n35 x0 x2) (n36 x0 x2)
def n101 : FVec F S256x128 .f32 := k0_pay89 (n37 x0 x2) (n38 x0 x2)
def n102 : FVec F S256x128 .f32 := k0_pay90 (n37 x0 x2) (n38 x0 x2)
def n103 : FVec F S256x128 .f32 := k0_pay91 (n39 x0 x2) (n40 x0 x2)
def n104 : FVec F S256x128 .f32 := k0_pay92 (n39 x0 x2) (n40 x0 x2)
def n105 : FVec F S256x128 .f32 := k0_pay93 (n41 x0 x2) (n42 x0 x2)
def n106 : FVec F S256x128 .f32 := k0_pay94 (n41 x0 x2) (n42 x0 x2)
def n107 : FVec F S256x128 .f32 := k0_pay95 (n43 x0 x2) (n44 x0 x2)
def n108 : FVec F S256x128 .f32 := k0_pay96 (n43 x0 x2) (n44 x0 x2)
def n109 : FVec F S256x128 .f32 := k0_pay97 (n45 x0 x2) (n46 x0 x2)
def n110 : FVec F S256x128 .f32 := k0_pay98 (n45 x0 x2) (n46 x0 x2)
def n111 : FVec F S256x128 .f32 := k0_pay99 (n47 x0 x2) (n48 x0 x2)
def n112 : FVec F S256x128 .f32 := k0_pay100 (n47 x0 x2) (n48 x0 x2)
def n113 : FVec F S256x128 .f32 := k0_pay101 (n49 x0 x2) (n50 x0 x2)
def n114 : FVec F S256x128 .f32 := k0_pay102 (n49 x0 x2) (n50 x0 x2)
def n115 : FVec F S256x128 .f32 := k0_pay103 (n51 x0 x2) (n52 x0 x2)
def n116 : FVec F S256x128 .f32 := k0_pay104 (n51 x0 x2) (n52 x0 x2)
def n117 : FVec F S256x128 .f32 := k0_pay105 (n53 x0 x2) (n54 x0 x2)
def n118 : FVec F S256x128 .f32 := k0_pay106 (n53 x0 x2) (n54 x0 x2)
def n119 : FVec F S256x128 .f32 := k0_pay107 (n55 x0 x2) (n56 x0 x2)
def n120 : FVec F S256x128 .f32 := k0_pay108 (n55 x0 x2) (n56 x0 x2)
def n121 : FVec F S256x128 .f32 := k0_pay109 (n57 x0 x2) (n58 x0 x2)
def n122 : FVec F S256x128 .f32 := k0_pay110 (n57 x0 x2) (n58 x0 x2)
def n123 : FVec F S256x128 .f32 := k0_pay111 (n59 x0 x2) (n60 x0 x2)
def n124 : FVec F S256x128 .f32 := k0_pay112 (n59 x0 x2) (n60 x0 x2)
def n125 : FVec F S256x128 .f32 := k0_pay113 (n61 x0 x2) (n62 x0 x2)
def n126 : FVec F S256x128 .f32 := k0_pay114 (n61 x0 x2) (n62 x0 x2)
def n127 : FVec F S256x128 .f32 := k0_pay115 (n63 x0 x2) (n64 x0 x2)
def n128 : FVec F S256x128 .f32 := k0_pay116 (n63 x0 x2) (n64 x0 x2)
def n129 : FVec F S256x128 .f32 := k0_pay117 (n65 x0 x2) (n66 x0 x2)
def n130 : FVec F S256x128 .f32 := k0_pay118 (n65 x0 x2) (n66 x0 x2)
def n131 : FVec F S256x128 .f32 := k0_pay119 (n67 x0 x2) (n68 x0 x2)
def n132 : FVec F S256x128 .f32 := k0_pay120 (n67 x0 x2) (n68 x0 x2)
def n133 : FVec F S256x128 .f32 := k0_pay121 (n69 x0 x2) (n70 x0 x2)
def n134 : FVec F S256x128 .f32 := k0_pay122 (n69 x0 x2) (n70 x0 x2)
def n135 : FVec F S256x128 .f32 := k0_pay123 (n71 x0 x2) (n72 x0 x2)
def n136 : FVec F S256x128 .f32 := k0_pay124 (n71 x0 x2) (n72 x0 x2)
def n137 : FVec F S256x128 .f32 := k0_pay125 (n73 x0 x2) (n74 x0 x2)
def n138 : FVec F S256x128 .f32 := k0_pay126 (n73 x0 x2) (n74 x0 x2)
def n139 : FVec F S256x128 .f32 := k0_pay127 (n75 x0 x2) (n76 x0 x2)
def n140 : FVec F S256x128 .f32 := k0_pay128 (n75 x0 x2) (n76 x0 x2)
def n141 : FVec F S256x128 .f32 := k0_pay129 (n77 x0 x2) (n78 x0 x2)
def n142 : FVec F S256x128 .f32 := k0_pay130 (n77 x0 x2) (n78 x0 x2)
def n143 : FVec F S256x128 .f32 := k0_pay131 (n79 x0 x2) (n80 x0 x2)
def n144 : FVec F S256x128 .f32 := k0_pay132 (n79 x0 x2) (n80 x0 x2)
def n145 : FVec F S256x128 .f32 := k0_pay133 (n81 x0 x2) (n82 x0 x2)
def n146 : FVec F S256x128 .f32 := k0_pay134 (n81 x0 x2) (n82 x0 x2)
def n147 : FVec F S256x128 .f32 := k0_pay135 (n83 x0 x2) (n84 x0 x2)
def n148 : FVec F S256x128 .f32 := k0_pay136 (n83 x0 x2) (n84 x0 x2)
def n149 : FVec F S256x128 .f32 := k0_pay137 (n85 x0 x2) (n86 x0 x2)
def n150 : FVec F S256x128 .f32 := k0_pay138 (n85 x0 x2) (n86 x0 x2)
def n151 : FVec F S256x128 .f32 := k0_pay139 (n87 x0 x2) (n88 x0 x2)
def n152 : FVec F S256x128 .f32 := k0_pay140 (n87 x0 x2) (n88 x0 x2)
def n153 : FVec F S256x128 .f32 := k0_pay141 (n89 x0 x2) (n90 x0 x2)
def n154 : FVec F S256x128 .f32 := k0_pay142 (n89 x0 x2) (n90 x0 x2)
def n155 : FVec F S256x128 .f32 := k0_pay143 (n91 x0 x2) (n92 x0 x2)
def n156 : FVec F S256x128 .f32 := k0_pay144 (n91 x0 x2) (n92 x0 x2)
def n157 : FVec F S256x128 .f32 := k0_pay145 (n93 x0 x2) (n94 x0 x2)
def n158 : FVec F S256x128 .f32 := k0_pay146 (n93 x0 x2) (n94 x0 x2)
def n159 : FVec F S256x128 .f32 := k0_pay147 (n95 x0 x2) (n97 x0 x2)
def n160 : FVec F S256x128 .f32 := k0_pay148 (n95 x0 x2) (n97 x0 x2)
def n161 : FVec F S256x128 .f32 := k0_pay149 (n96 x0 x2) (n98 x0 x2)
def n162 : FVec F S256x128 .f32 := k0_pay150 (n96 x0 x2) (n98 x0 x2)
def n163 : FVec F S256x128 .f32 := k0_pay151 (n95 x0 x2) (n96 x0 x2) (n97 x0 x2) (n98 x0 x2)
def n164 : FVec F S256x128 .f32 := k0_pay152 (n160 x0 x2) (n161 x0 x2)
def n165 : FVec F S256x128 .f32 := k0_pay153 (n99 x0 x2) (n101 x0 x2)
def n168 : FVec F S256x128 .f32 := k0_pay156 (n100 x0 x2) (n102 x0 x2)
def n169 : FVec F S256x128 .f32 := k0_pay157 (n99 x0 x2) (n100 x0 x2) (n101 x0 x2) (n102 x0 x2)
def n170 : FVec F S256x128 .f32 := k0_pay158 (n99 x0 x2) (n100 x0 x2) (n101 x0 x2) (n102 x0 x2)
def n171 : FVec F S256x128 .f32 := k0_pay159 (n103 x0 x2) (n105 x0 x2)
def n174 : FVec F S256x128 .f32 := k0_pay162 (n104 x0 x2) (n106 x0 x2)
def n175 : FVec F S256x128 .f32 := k0_pay163 (n103 x0 x2) (n104 x0 x2) (n105 x0 x2) (n106 x0 x2)
def n176 : FVec F S256x128 .f32 := k0_pay164 (n103 x0 x2) (n104 x0 x2) (n105 x0 x2) (n106 x0 x2)
def n177 : FVec F S256x128 .f32 := k0_pay165 (n107 x0 x2) (n109 x0 x2)
def n180 : FVec F S256x128 .f32 := k0_pay168 (n108 x0 x2) (n110 x0 x2)
def n181 : FVec F S256x128 .f32 := k0_pay169 (n107 x0 x2) (n108 x0 x2) (n109 x0 x2) (n110 x0 x2)
def n182 : FVec F S256x128 .f32 := k0_pay170 (n107 x0 x2) (n108 x0 x2) (n109 x0 x2) (n110 x0 x2)
def n183 : FVec F S256x128 .f32 := k0_pay171 (n111 x0 x2) (n113 x0 x2)
def n186 : FVec F S256x128 .f32 := k0_pay174 (n112 x0 x2) (n114 x0 x2)
def n187 : FVec F S256x128 .f32 := k0_pay175 (n111 x0 x2) (n112 x0 x2) (n113 x0 x2) (n114 x0 x2)
def n188 : FVec F S256x128 .f32 := k0_pay176 (n111 x0 x2) (n112 x0 x2) (n113 x0 x2) (n114 x0 x2)
def n189 : FVec F S256x128 .f32 := k0_pay177 (n115 x0 x2) (n117 x0 x2)
def n192 : FVec F S256x128 .f32 := k0_pay180 (n116 x0 x2) (n118 x0 x2)
def n193 : FVec F S256x128 .f32 := k0_pay181 (n115 x0 x2) (n116 x0 x2) (n117 x0 x2) (n118 x0 x2)
def n194 : FVec F S256x128 .f32 := k0_pay182 (n115 x0 x2) (n116 x0 x2) (n117 x0 x2) (n118 x0 x2)
def n195 : FVec F S256x128 .f32 := k0_pay183 (n119 x0 x2) (n121 x0 x2)
def n198 : FVec F S256x128 .f32 := k0_pay186 (n120 x0 x2) (n122 x0 x2)
def n199 : FVec F S256x128 .f32 := k0_pay187 (n119 x0 x2) (n120 x0 x2) (n121 x0 x2) (n122 x0 x2)
def n200 : FVec F S256x128 .f32 := k0_pay188 (n119 x0 x2) (n120 x0 x2) (n121 x0 x2) (n122 x0 x2)
def n201 : FVec F S256x128 .f32 := k0_pay189 (n123 x0 x2) (n125 x0 x2)
def n204 : FVec F S256x128 .f32 := k0_pay192 (n124 x0 x2) (n126 x0 x2)
def n205 : FVec F S256x128 .f32 := k0_pay193 (n123 x0 x2) (n124 x0 x2) (n125 x0 x2) (n126 x0 x2)
def n206 : FVec F S256x128 .f32 := k0_pay194 (n123 x0 x2) (n124 x0 x2) (n125 x0 x2) (n126 x0 x2)
def n207 : FVec F S256x128 .f32 := k0_pay195 (n127 x0 x2) (n129 x0 x2)
def n210 : FVec F S256x128 .f32 := k0_pay198 (n128 x0 x2) (n130 x0 x2)
def n211 : FVec F S256x128 .f32 := k0_pay199 (n127 x0 x2) (n128 x0 x2) (n129 x0 x2) (n130 x0 x2)
def n212 : FVec F S256x128 .f32 := k0_pay200 (n127 x0 x2) (n128 x0 x2) (n129 x0 x2) (n130 x0 x2)
def n213 : FVec F S256x128 .f32 := k0_pay201 (n131 x0 x2) (n133 x0 x2)
def n216 : FVec F S256x128 .f32 := k0_pay204 (n132 x0 x2) (n134 x0 x2)
def n217 : FVec F S256x128 .f32 := k0_pay205 (n131 x0 x2) (n132 x0 x2) (n133 x0 x2) (n134 x0 x2)
def n218 : FVec F S256x128 .f32 := k0_pay206 (n131 x0 x2) (n132 x0 x2) (n133 x0 x2) (n134 x0 x2)
def n219 : FVec F S256x128 .f32 := k0_pay207 (n135 x0 x2) (n137 x0 x2)
def n220 : FVec F S256x128 .f32 := k0_pay208 (n135 x0 x2) (n137 x0 x2)
def n221 : FVec F S256x128 .f32 := k0_pay209 (n136 x0 x2) (n138 x0 x2)
def n222 : FVec F S256x128 .f32 := k0_pay210 (n136 x0 x2) (n138 x0 x2)
def n223 : FVec F S256x128 .f32 := k0_pay211 (n135 x0 x2) (n136 x0 x2) (n137 x0 x2) (n138 x0 x2)
def n224 : FVec F S256x128 .f32 := k0_pay212 (n220 x0 x2) (n221 x0 x2)
def n225 : FVec F S256x128 .f32 := k0_pay213 (n139 x0 x2) (n141 x0 x2)
def n228 : FVec F S256x128 .f32 := k0_pay216 (n140 x0 x2) (n142 x0 x2)
def n229 : FVec F S256x128 .f32 := k0_pay217 (n139 x0 x2) (n140 x0 x2) (n141 x0 x2) (n142 x0 x2)
def n230 : FVec F S256x128 .f32 := k0_pay218 (n139 x0 x2) (n140 x0 x2) (n141 x0 x2) (n142 x0 x2)
def n231 : FVec F S256x128 .f32 := k0_pay219 (n143 x0 x2) (n145 x0 x2)
def n234 : FVec F S256x128 .f32 := k0_pay222 (n144 x0 x2) (n146 x0 x2)
def n235 : FVec F S256x128 .f32 := k0_pay223 (n143 x0 x2) (n144 x0 x2) (n145 x0 x2) (n146 x0 x2)
def n236 : FVec F S256x128 .f32 := k0_pay224 (n143 x0 x2) (n144 x0 x2) (n145 x0 x2) (n146 x0 x2)
def n237 : FVec F S256x128 .f32 := k0_pay225 (n147 x0 x2) (n149 x0 x2)
def n240 : FVec F S256x128 .f32 := k0_pay228 (n148 x0 x2) (n150 x0 x2)
def n241 : FVec F S256x128 .f32 := k0_pay229 (n147 x0 x2) (n148 x0 x2) (n149 x0 x2) (n150 x0 x2)
def n242 : FVec F S256x128 .f32 := k0_pay230 (n147 x0 x2) (n148 x0 x2) (n149 x0 x2) (n150 x0 x2)
def n243 : FVec F S256x128 .f32 := k0_pay231 (n151 x0 x2) (n153 x0 x2)
def n246 : FVec F S256x128 .f32 := k0_pay234 (n152 x0 x2) (n154 x0 x2)
def n247 : FVec F S256x128 .f32 := k0_pay235 (n151 x0 x2) (n152 x0 x2) (n153 x0 x2) (n154 x0 x2)
def n248 : FVec F S256x128 .f32 := k0_pay236 (n151 x0 x2) (n152 x0 x2) (n153 x0 x2) (n154 x0 x2)
def n249 : FVec F S256x128 .f32 := k0_pay237 (n155 x0 x2) (n157 x0 x2)
def n252 : FVec F S256x128 .f32 := k0_pay240 (n156 x0 x2) (n158 x0 x2)
def n253 : FVec F S256x128 .f32 := k0_pay241 (n155 x0 x2) (n156 x0 x2) (n157 x0 x2) (n158 x0 x2)
def n254 : FVec F S256x128 .f32 := k0_pay242 (n155 x0 x2) (n156 x0 x2) (n157 x0 x2) (n158 x0 x2)
def n255 : FVec F S256x128 .f32 := k0_pay243 (n159 x0 x2) (n165 x0 x2)
def n264 : FVec F S256x128 .f32 := k0_pay252 (n162 x0 x2) (n168 x0 x2)
def n267 : FVec F S256x128 .f32 := k0_pay255 (n159 x0 x2) (n163 x0 x2) (n164 x0 x2) (n165 x0 x2) (n169 x0 x2) (n170 x0 x2)
def n268 : FVec F S256x128 .f32 := k0_pay256 (n159 x0 x2) (n163 x0 x2) (n164 x0 x2) (n165 x0 x2) (n169 x0 x2) (n170 x0 x2)
def n269 : FVec F S256x128 .f32 := k0_pay257 (n159 x0 x2) (n162 x0 x2) (n163 x0 x2) (n164 x0 x2) (n165 x0 x2) (n168 x0 x2) (n169 x0 x2) (n170 x0 x2)
def n270 : FVec F S256x128 .f32 := k0_pay258 (n159 x0 x2) (n162 x0 x2) (n163 x0 x2) (n164 x0 x2) (n165 x0 x2) (n168 x0 x2) (n169 x0 x2) (n170 x0 x2)
def n271 : FVec F S256x128 .f32 := k0_pay259 (n162 x0 x2) (n163 x0 x2) (n164 x0 x2) (n168 x0 x2) (n169 x0 x2) (n170 x0 x2)
def n272 : FVec F S256x128 .f32 := k0_pay260 (n162 x0 x2) (n163 x0 x2) (n164 x0 x2) (n168 x0 x2) (n169 x0 x2) (n170 x0 x2)
def n273 : FVec F S256x128 .f32 := k0_pay261 (n171 x0 x2) (n177 x0 x2)
def n276 : FVec F S256x128 .f32 := k0_pay264 (n176 x0 x2) (n182 x0 x2)
def n277 : FVec F S256x128 .f32 := k0_pay265 (n171 x0 x2) (n176 x0 x2) (n177 x0 x2) (n182 x0 x2)
def n278 : FVec F S256x128 .f32 := k0_pay266 (n171 x0 x2) (n176 x0 x2) (n177 x0 x2) (n182 x0 x2)
def n279 : FVec F S256x128 .f32 := k0_pay267 (n175 x0 x2) (n181 x0 x2)
def n280 : FVec F S256x128 .f32 := k0_pay268 (n175 x0 x2) (n181 x0 x2)
def n281 : FVec F S256x128 .f32 := k0_pay269 (n174 x0 x2) (n180 x0 x2)
def n282 : FVec F S256x128 .f32 := k0_pay270 (n174 x0 x2) (n180 x0 x2)
def n283 : FVec F S256x128 .f32 := k0_pay271 (n174 x0 x2) (n175 x0 x2) (n180 x0 x2) (n181 x0 x2)
def n285 : FVec F S256x128 .f32 := k0_pay273 (n277 x0 x2) (n279 x0 x2)
def n286 : FVec F S256x128 .f32 := k0_pay274 (n277 x0 x2) (n279 x0 x2)
def n287 : FVec F S256x128 .f32 := k0_pay275 (n278 x0 x2) (n283 x0 x2)
def n288 : FVec F S256x128 .f32 := k0_pay276 (n278 x0 x2) (n283 x0 x2)
def n289 : FVec F S256x128 .f32 := k0_pay277 (n276 x0 x2) (n280 x0 x2) (n281 x0 x2)
def n290 : FVec F S256x128 .f32 := k0_pay278 (n276 x0 x2) (n280 x0 x2) (n281 x0 x2)
def n291 : FVec F S256x128 .f32 := k0_pay279 (n183 x0 x2) (n189 x0 x2)
def n300 : FVec F S256x128 .f32 := k0_pay288 (n186 x0 x2) (n192 x0 x2)
def n303 : FVec F S256x128 .f32 := k0_pay291 (n183 x0 x2) (n187 x0 x2) (n188 x0 x2) (n189 x0 x2) (n193 x0 x2) (n194 x0 x2)
def n304 : FVec F S256x128 .f32 := k0_pay292 (n183 x0 x2) (n187 x0 x2) (n188 x0 x2) (n189 x0 x2) (n193 x0 x2) (n194 x0 x2)
def n305 : FVec F S256x128 .f32 := k0_pay293 (n183 x0 x2) (n186 x0 x2) (n187 x0 x2) (n188 x0 x2) (n189 x0 x2) (n192 x0 x2) (n193 x0 x2) (n194 x0 x2)
def n306 : FVec F S256x128 .f32 := k0_pay294 (n183 x0 x2) (n186 x0 x2) (n187 x0 x2) (n188 x0 x2) (n189 x0 x2) (n192 x0 x2) (n193 x0 x2) (n194 x0 x2)
def n307 : FVec F S256x128 .f32 := k0_pay295 (n186 x0 x2) (n187 x0 x2) (n188 x0 x2) (n192 x0 x2) (n193 x0 x2) (n194 x0 x2)
def n308 : FVec F S256x128 .f32 := k0_pay296 (n186 x0 x2) (n187 x0 x2) (n188 x0 x2) (n192 x0 x2) (n193 x0 x2) (n194 x0 x2)
def n309 : FVec F S256x128 .f32 := k0_pay297 (n195 x0 x2) (n201 x0 x2)
def n318 : FVec F S256x128 .f32 := k0_pay306 (n198 x0 x2) (n204 x0 x2)
def n321 : FVec F S256x128 .f32 := k0_pay309 (n195 x0 x2) (n199 x0 x2) (n200 x0 x2) (n201 x0 x2) (n205 x0 x2) (n206 x0 x2)
def n322 : FVec F S256x128 .f32 := k0_pay310 (n195 x0 x2) (n199 x0 x2) (n200 x0 x2) (n201 x0 x2) (n205 x0 x2) (n206 x0 x2)
def n323 : FVec F S256x128 .f32 := k0_pay311 (n195 x0 x2) (n198 x0 x2) (n199 x0 x2) (n200 x0 x2) (n201 x0 x2) (n204 x0 x2) (n205 x0 x2) (n206 x0 x2)
def n324 : FVec F S256x128 .f32 := k0_pay312 (n195 x0 x2) (n198 x0 x2) (n199 x0 x2) (n200 x0 x2) (n201 x0 x2) (n204 x0 x2) (n205 x0 x2) (n206 x0 x2)
def n325 : FVec F S256x128 .f32 := k0_pay313 (n198 x0 x2) (n199 x0 x2) (n200 x0 x2) (n204 x0 x2) (n205 x0 x2) (n206 x0 x2)
def n326 : FVec F S256x128 .f32 := k0_pay314 (n198 x0 x2) (n199 x0 x2) (n200 x0 x2) (n204 x0 x2) (n205 x0 x2) (n206 x0 x2)
def n327 : FVec F S256x128 .f32 := k0_pay315 (n207 x0 x2) (n213 x0 x2)
def n330 : FVec F S256x128 .f32 := k0_pay318 (n212 x0 x2) (n218 x0 x2)
def n336 : FVec F S256x128 .f32 := k0_pay324 (n210 x0 x2) (n216 x0 x2)
def n338 : FVec F S256x128 .f32 := k0_pay326 (n210 x0 x2) (n211 x0 x2) (n216 x0 x2) (n217 x0 x2)
def n339 : FVec F S256x128 .f32 := k0_pay327 (n207 x0 x2) (n211 x0 x2) (n212 x0 x2) (n213 x0 x2) (n217 x0 x2) (n218 x0 x2)
def n340 : FVec F S256x128 .f32 := k0_pay328 (n207 x0 x2) (n211 x0 x2) (n212 x0 x2) (n213 x0 x2) (n217 x0 x2) (n218 x0 x2)
def n341 : FVec F S256x128 .f32 := k0_pay329 (n207 x0 x2) (n210 x0 x2) (n211 x0 x2) (n212 x0 x2) (n213 x0 x2) (n216 x0 x2) (n217 x0 x2) (n218 x0 x2)
def n342 : FVec F S256x128 .f32 := k0_pay330 (n207 x0 x2) (n210 x0 x2) (n211 x0 x2) (n212 x0 x2) (n213 x0 x2) (n216 x0 x2) (n217 x0 x2) (n218 x0 x2)
def n343 : FVec F S256x128 .f32 := k0_pay331 (n210 x0 x2) (n211 x0 x2) (n212 x0 x2) (n216 x0 x2) (n217 x0 x2) (n218 x0 x2)
def n344 : FVec F S256x128 .f32 := k0_pay332 (n330 x0 x2) (n338 x0 x2)
def n345 : FVec F S256x128 .f32 := k0_pay333 (n219 x0 x2) (n225 x0 x2)
def n354 : FVec F S256x128 .f32 := k0_pay342 (n222 x0 x2) (n228 x0 x2)
def n357 : FVec F S256x128 .f32 := k0_pay345 (n219 x0 x2) (n223 x0 x2) (n224 x0 x2) (n225 x0 x2) (n229 x0 x2) (n230 x0 x2)
def n358 : FVec F S256x128 .f32 := k0_pay346 (n219 x0 x2) (n223 x0 x2) (n224 x0 x2) (n225 x0 x2) (n229 x0 x2) (n230 x0 x2)
def n359 : FVec F S256x128 .f32 := k0_pay347 (n219 x0 x2) (n222 x0 x2) (n223 x0 x2) (n224 x0 x2) (n225 x0 x2) (n228 x0 x2) (n229 x0 x2) (n230 x0 x2)
def n360 : FVec F S256x128 .f32 := k0_pay348 (n219 x0 x2) (n222 x0 x2) (n223 x0 x2) (n224 x0 x2) (n225 x0 x2) (n228 x0 x2) (n229 x0 x2) (n230 x0 x2)
def n361 : FVec F S256x128 .f32 := k0_pay349 (n222 x0 x2) (n223 x0 x2) (n224 x0 x2) (n228 x0 x2) (n229 x0 x2) (n230 x0 x2)
def n362 : FVec F S256x128 .f32 := k0_pay350 (n222 x0 x2) (n223 x0 x2) (n224 x0 x2) (n228 x0 x2) (n229 x0 x2) (n230 x0 x2)
def n363 : FVec F S256x128 .f32 := k0_pay351 (n231 x0 x2) (n237 x0 x2)
def n372 : FVec F S256x128 .f32 := k0_pay360 (n234 x0 x2) (n240 x0 x2)
def n375 : FVec F S256x128 .f32 := k0_pay363 (n231 x0 x2) (n235 x0 x2) (n236 x0 x2) (n237 x0 x2) (n241 x0 x2) (n242 x0 x2)
def n376 : FVec F S256x128 .f32 := k0_pay364 (n231 x0 x2) (n235 x0 x2) (n236 x0 x2) (n237 x0 x2) (n241 x0 x2) (n242 x0 x2)
def n377 : FVec F S256x128 .f32 := k0_pay365 (n231 x0 x2) (n234 x0 x2) (n235 x0 x2) (n236 x0 x2) (n237 x0 x2) (n240 x0 x2) (n241 x0 x2) (n242 x0 x2)
def n378 : FVec F S256x128 .f32 := k0_pay366 (n231 x0 x2) (n234 x0 x2) (n235 x0 x2) (n236 x0 x2) (n237 x0 x2) (n240 x0 x2) (n241 x0 x2) (n242 x0 x2)
def n379 : FVec F S256x128 .f32 := k0_pay367 (n234 x0 x2) (n235 x0 x2) (n236 x0 x2) (n240 x0 x2) (n241 x0 x2) (n242 x0 x2)
def n380 : FVec F S256x128 .f32 := k0_pay368 (n234 x0 x2) (n235 x0 x2) (n236 x0 x2) (n240 x0 x2) (n241 x0 x2) (n242 x0 x2)
def n381 : FVec F S256x128 .f32 := k0_pay369 (n243 x0 x2) (n249 x0 x2)
def n390 : FVec F S256x128 .f32 := k0_pay378 (n246 x0 x2) (n252 x0 x2)
def n393 : FVec F S256x128 .f32 := k0_pay381 (n243 x0 x2) (n247 x0 x2) (n248 x0 x2) (n249 x0 x2) (n253 x0 x2) (n254 x0 x2)
def n394 : FVec F S256x128 .f32 := k0_pay382 (n243 x0 x2) (n247 x0 x2) (n248 x0 x2) (n249 x0 x2) (n253 x0 x2) (n254 x0 x2)
def n395 : FVec F S256x128 .f32 := k0_pay383 (n243 x0 x2) (n246 x0 x2) (n247 x0 x2) (n248 x0 x2) (n249 x0 x2) (n252 x0 x2) (n253 x0 x2) (n254 x0 x2)
def n396 : FVec F S256x128 .f32 := k0_pay384 (n243 x0 x2) (n246 x0 x2) (n247 x0 x2) (n248 x0 x2) (n249 x0 x2) (n252 x0 x2) (n253 x0 x2) (n254 x0 x2)
def n397 : FVec F S256x128 .f32 := k0_pay385 (n246 x0 x2) (n247 x0 x2) (n248 x0 x2) (n252 x0 x2) (n253 x0 x2) (n254 x0 x2)
def n398 : FVec F S256x128 .f32 := k0_pay386 (n246 x0 x2) (n247 x0 x2) (n248 x0 x2) (n252 x0 x2) (n253 x0 x2) (n254 x0 x2)
def n399 : FVec F S256x128 .f32 := k0_pay387 (n255 x0 x2) (n282 x0 x2)
def n400 : FVec F S256x128 .f32 := k0_pay388 (n267 x0 x2) (n290 x0 x2)
def n401 : FVec F S256x128 .f32 := k0_pay389 (n268 x0 x2) (n289 x0 x2)
def n402 : FVec F S256x128 .f32 := k0_pay390 (n269 x0 x2) (n288 x0 x2)
def n403 : FVec F S256x128 .f32 := k0_pay391 (n270 x0 x2) (n287 x0 x2)
def n423 : FVec F S256x128 .f32 := k0_pay411 (n264 x0 x2) (n271 x0 x2) (n272 x0 x2) (n273 x0 x2) (n285 x0 x2) (n286 x0 x2) (n399 x0 x2) (n400 x0 x2) (n401 x0 x2) (n402 x0 x2) (n403 x0 x2)
def n424 : FVec F S256x128 .f32 := k0_pay412 (n264 x0 x2) (n271 x0 x2) (n272 x0 x2) (n273 x0 x2) (n285 x0 x2) (n286 x0 x2) (n399 x0 x2) (n400 x0 x2) (n401 x0 x2) (n402 x0 x2) (n403 x0 x2)
def n425 : FVec F S256x128 .f32 := k0_pay413 (n264 x0 x2) (n271 x0 x2) (n272 x0 x2) (n273 x0 x2) (n285 x0 x2) (n286 x0 x2) (n399 x0 x2) (n400 x0 x2) (n401 x0 x2) (n402 x0 x2) (n403 x0 x2)
def n426 : FVec F S256x128 .f32 := k0_pay414 (n264 x0 x2) (n271 x0 x2) (n272 x0 x2) (n273 x0 x2) (n285 x0 x2) (n286 x0 x2) (n399 x0 x2) (n400 x0 x2) (n401 x0 x2) (n402 x0 x2) (n403 x0 x2)
def n427 : FVec F S256x128 .f32 := k0_pay415 (n264 x0 x2) (n271 x0 x2) (n272 x0 x2) (n273 x0 x2) (n285 x0 x2) (n286 x0 x2) (n399 x0 x2) (n400 x0 x2) (n401 x0 x2) (n402 x0 x2) (n403 x0 x2)
def n428 : FVec F S256x128 .f32 := k0_pay416 (n264 x0 x2) (n271 x0 x2) (n272 x0 x2) (n273 x0 x2) (n285 x0 x2) (n286 x0 x2) (n399 x0 x2) (n400 x0 x2) (n401 x0 x2) (n402 x0 x2) (n403 x0 x2)
def n429 : FVec F S256x128 .f32 := k0_pay417 (n264 x0 x2) (n271 x0 x2) (n272 x0 x2) (n273 x0 x2) (n285 x0 x2) (n286 x0 x2) (n399 x0 x2) (n400 x0 x2) (n401 x0 x2) (n402 x0 x2) (n403 x0 x2)
def n430 : FVec F S256x128 .f32 := k0_pay418 (n264 x0 x2) (n271 x0 x2) (n272 x0 x2) (n273 x0 x2) (n285 x0 x2) (n286 x0 x2) (n399 x0 x2) (n400 x0 x2) (n401 x0 x2) (n402 x0 x2) (n403 x0 x2)
def n455 : FVec F S256x128 .f32 := k0_pay443 (n291 x0 x2) (n300 x0 x2) (n303 x0 x2) (n304 x0 x2) (n305 x0 x2) (n306 x0 x2) (n307 x0 x2) (n308 x0 x2) (n309 x0 x2) (n318 x0 x2) (n321 x0 x2) (n322 x0 x2) (n323 x0 x2) (n324 x0 x2) (n325 x0 x2) (n326 x0 x2)
def n456 : FVec F S256x128 .f32 := k0_pay444 (n291 x0 x2) (n300 x0 x2) (n303 x0 x2) (n304 x0 x2) (n305 x0 x2) (n306 x0 x2) (n307 x0 x2) (n308 x0 x2) (n309 x0 x2) (n318 x0 x2) (n321 x0 x2) (n322 x0 x2) (n323 x0 x2) (n324 x0 x2) (n325 x0 x2) (n326 x0 x2)
def n457 : FVec F S256x128 .f32 := k0_pay445 (n291 x0 x2) (n300 x0 x2) (n303 x0 x2) (n304 x0 x2) (n305 x0 x2) (n306 x0 x2) (n307 x0 x2) (n308 x0 x2) (n309 x0 x2) (n318 x0 x2) (n321 x0 x2) (n322 x0 x2) (n323 x0 x2) (n324 x0 x2) (n325 x0 x2) (n326 x0 x2)
def n458 : FVec F S256x128 .f32 := k0_pay446 (n291 x0 x2) (n300 x0 x2) (n303 x0 x2) (n304 x0 x2) (n305 x0 x2) (n306 x0 x2) (n307 x0 x2) (n308 x0 x2) (n309 x0 x2) (n318 x0 x2) (n321 x0 x2) (n322 x0 x2) (n323 x0 x2) (n324 x0 x2) (n325 x0 x2) (n326 x0 x2)
def n459 : FVec F S256x128 .f32 := k0_pay447 (n291 x0 x2) (n300 x0 x2) (n303 x0 x2) (n304 x0 x2) (n305 x0 x2) (n306 x0 x2) (n307 x0 x2) (n308 x0 x2) (n309 x0 x2) (n318 x0 x2) (n321 x0 x2) (n322 x0 x2) (n323 x0 x2) (n324 x0 x2) (n325 x0 x2) (n326 x0 x2)
def n460 : FVec F S256x128 .f32 := k0_pay448 (n291 x0 x2) (n300 x0 x2) (n303 x0 x2) (n304 x0 x2) (n305 x0 x2) (n306 x0 x2) (n307 x0 x2) (n308 x0 x2) (n309 x0 x2) (n318 x0 x2) (n321 x0 x2) (n322 x0 x2) (n323 x0 x2) (n324 x0 x2) (n325 x0 x2) (n326 x0 x2)
def n461 : FVec F S256x128 .f32 := k0_pay449 (n291 x0 x2) (n300 x0 x2) (n303 x0 x2) (n304 x0 x2) (n305 x0 x2) (n306 x0 x2) (n307 x0 x2) (n308 x0 x2) (n309 x0 x2) (n318 x0 x2) (n321 x0 x2) (n322 x0 x2) (n323 x0 x2) (n324 x0 x2) (n325 x0 x2) (n326 x0 x2)
def n462 : FVec F S256x128 .f32 := k0_pay450 (n291 x0 x2) (n300 x0 x2) (n303 x0 x2) (n304 x0 x2) (n305 x0 x2) (n306 x0 x2) (n307 x0 x2) (n308 x0 x2) (n309 x0 x2) (n318 x0 x2) (n321 x0 x2) (n322 x0 x2) (n323 x0 x2) (n324 x0 x2) (n325 x0 x2) (n326 x0 x2)
def n463 : FVec F S256x128 .f32 := k0_pay451 (n327 x0 x2) (n354 x0 x2)
def n487 : FVec F S256x128 .f32 := k0_pay475 (n336 x0 x2) (n339 x0 x2) (n340 x0 x2) (n341 x0 x2) (n342 x0 x2) (n343 x0 x2) (n344 x0 x2) (n345 x0 x2) (n357 x0 x2) (n358 x0 x2) (n359 x0 x2) (n360 x0 x2) (n361 x0 x2) (n362 x0 x2) (n463 x0 x2)
def n488 : FVec F S256x128 .f32 := k0_pay476 (n336 x0 x2) (n339 x0 x2) (n340 x0 x2) (n341 x0 x2) (n342 x0 x2) (n343 x0 x2) (n344 x0 x2) (n345 x0 x2) (n357 x0 x2) (n358 x0 x2) (n359 x0 x2) (n360 x0 x2) (n361 x0 x2) (n362 x0 x2) (n463 x0 x2)
def n489 : FVec F S256x128 .f32 := k0_pay477 (n336 x0 x2) (n339 x0 x2) (n340 x0 x2) (n341 x0 x2) (n342 x0 x2) (n343 x0 x2) (n344 x0 x2) (n345 x0 x2) (n357 x0 x2) (n358 x0 x2) (n359 x0 x2) (n360 x0 x2) (n361 x0 x2) (n362 x0 x2) (n463 x0 x2)
def n490 : FVec F S256x128 .f32 := k0_pay478 (n336 x0 x2) (n339 x0 x2) (n340 x0 x2) (n341 x0 x2) (n342 x0 x2) (n343 x0 x2) (n344 x0 x2) (n345 x0 x2) (n357 x0 x2) (n358 x0 x2) (n359 x0 x2) (n360 x0 x2) (n361 x0 x2) (n362 x0 x2) (n463 x0 x2)
def n491 : FVec F S256x128 .f32 := k0_pay479 (n336 x0 x2) (n339 x0 x2) (n340 x0 x2) (n341 x0 x2) (n342 x0 x2) (n343 x0 x2) (n344 x0 x2) (n345 x0 x2) (n357 x0 x2) (n358 x0 x2) (n359 x0 x2) (n360 x0 x2) (n361 x0 x2) (n362 x0 x2) (n463 x0 x2)
def n492 : FVec F S256x128 .f32 := k0_pay480 (n336 x0 x2) (n339 x0 x2) (n340 x0 x2) (n341 x0 x2) (n342 x0 x2) (n343 x0 x2) (n344 x0 x2) (n345 x0 x2) (n357 x0 x2) (n358 x0 x2) (n359 x0 x2) (n360 x0 x2) (n361 x0 x2) (n362 x0 x2) (n463 x0 x2)
def n493 : FVec F S256x128 .f32 := k0_pay481 (n336 x0 x2) (n339 x0 x2) (n340 x0 x2) (n341 x0 x2) (n342 x0 x2) (n343 x0 x2) (n344 x0 x2) (n345 x0 x2) (n357 x0 x2) (n358 x0 x2) (n359 x0 x2) (n360 x0 x2) (n361 x0 x2) (n362 x0 x2) (n463 x0 x2)
def n494 : FVec F S256x128 .f32 := k0_pay482 (n336 x0 x2) (n339 x0 x2) (n340 x0 x2) (n341 x0 x2) (n342 x0 x2) (n343 x0 x2) (n344 x0 x2) (n345 x0 x2) (n357 x0 x2) (n358 x0 x2) (n359 x0 x2) (n360 x0 x2) (n361 x0 x2) (n362 x0 x2) (n463 x0 x2)
def n515 : FVec F S256x128 .f32 := k0_pay503 (n363 x0 x2) (n376 x0 x2) (n378 x0 x2) (n380 x0 x2) (n390 x0 x2) (n393 x0 x2) (n395 x0 x2) (n397 x0 x2)
def n516 : FVec F S256x128 .f32 := k0_pay504 (n363 x0 x2) (n376 x0 x2) (n378 x0 x2) (n380 x0 x2) (n390 x0 x2) (n393 x0 x2) (n395 x0 x2) (n397 x0 x2)
def n517 : FVec F S256x128 .f32 := k0_pay505 (n372 x0 x2) (n375 x0 x2) (n377 x0 x2) (n379 x0 x2) (n381 x0 x2) (n394 x0 x2) (n396 x0 x2) (n398 x0 x2)
def n518 : FVec F S256x128 .f32 := k0_pay506 (n372 x0 x2) (n375 x0 x2) (n377 x0 x2) (n379 x0 x2) (n381 x0 x2) (n394 x0 x2) (n396 x0 x2) (n398 x0 x2)
def n519 : FVec F S256x128 .f32 := k0_pay507 (n363 x0 x2) (n372 x0 x2) (n375 x0 x2) (n376 x0 x2) (n377 x0 x2) (n378 x0 x2) (n379 x0 x2) (n380 x0 x2) (n381 x0 x2) (n390 x0 x2) (n393 x0 x2) (n394 x0 x2) (n395 x0 x2) (n396 x0 x2) (n397 x0 x2) (n398 x0 x2)
def n520 : FVec F S256x128 .f32 := k0_pay508 (n363 x0 x2) (n372 x0 x2) (n375 x0 x2) (n376 x0 x2) (n377 x0 x2) (n378 x0 x2) (n379 x0 x2) (n380 x0 x2) (n381 x0 x2) (n390 x0 x2) (n393 x0 x2) (n394 x0 x2) (n395 x0 x2) (n396 x0 x2) (n397 x0 x2) (n398 x0 x2)
def n521 : FVec F S256x128 .f32 := k0_pay509 (n363 x0 x2) (n372 x0 x2) (n375 x0 x2) (n376 x0 x2) (n377 x0 x2) (n378 x0 x2) (n379 x0 x2) (n380 x0 x2) (n381 x0 x2) (n390 x0 x2) (n393 x0 x2) (n394 x0 x2) (n395 x0 x2) (n396 x0 x2) (n397 x0 x2) (n398 x0 x2)
def n522 : FVec F S256x128 .f32 := k0_pay510 (n363 x0 x2) (n372 x0 x2) (n375 x0 x2) (n376 x0 x2) (n377 x0 x2) (n378 x0 x2) (n379 x0 x2) (n380 x0 x2) (n381 x0 x2) (n390 x0 x2) (n393 x0 x2) (n394 x0 x2) (n395 x0 x2) (n396 x0 x2) (n397 x0 x2) (n398 x0 x2)
def n523 : FVec F S256x128 .f32 := k0_pay511 (n363 x0 x2) (n372 x0 x2) (n375 x0 x2) (n376 x0 x2) (n377 x0 x2) (n378 x0 x2) (n379 x0 x2) (n380 x0 x2) (n381 x0 x2) (n390 x0 x2) (n393 x0 x2) (n394 x0 x2) (n395 x0 x2) (n396 x0 x2) (n397 x0 x2) (n398 x0 x2)
def n551 : FVec F S256x128 .f32 := k0_pay536 (n423 x0 x2) (n424 x0 x2) (n425 x0 x2) (n426 x0 x2) (n427 x0 x2) (n428 x0 x2) (n429 x0 x2) (n430 x0 x2) (n455 x0 x2) (n456 x0 x2) (n457 x0 x2) (n458 x0 x2) (n459 x0 x2) (n460 x0 x2) (n461 x0 x2) (n462 x0 x2)
def n552 : FVec F S256x128 .f32 := k0_pay537 (n423 x0 x2) (n424 x0 x2) (n425 x0 x2) (n426 x0 x2) (n427 x0 x2) (n428 x0 x2) (n429 x0 x2) (n430 x0 x2) (n455 x0 x2) (n456 x0 x2) (n457 x0 x2) (n458 x0 x2) (n459 x0 x2) (n460 x0 x2) (n461 x0 x2) (n462 x0 x2)
def n553 : FVec F S256x128 .f32 := k0_pay538 (n423 x0 x2) (n424 x0 x2) (n425 x0 x2) (n426 x0 x2) (n427 x0 x2) (n428 x0 x2) (n429 x0 x2) (n430 x0 x2) (n455 x0 x2) (n456 x0 x2) (n457 x0 x2) (n458 x0 x2) (n459 x0 x2) (n460 x0 x2) (n461 x0 x2) (n462 x0 x2)
def n554 : FVec F S256x128 .f32 := k0_pay539 (n423 x0 x2) (n424 x0 x2) (n425 x0 x2) (n426 x0 x2) (n427 x0 x2) (n428 x0 x2) (n429 x0 x2) (n430 x0 x2) (n455 x0 x2) (n456 x0 x2) (n457 x0 x2) (n458 x0 x2) (n459 x0 x2) (n460 x0 x2) (n461 x0 x2) (n462 x0 x2)
def n555 : FVec F S256x128 .f32 := k0_pay540 (n423 x0 x2) (n424 x0 x2) (n425 x0 x2) (n426 x0 x2) (n427 x0 x2) (n428 x0 x2) (n429 x0 x2) (n430 x0 x2) (n455 x0 x2) (n456 x0 x2) (n457 x0 x2) (n458 x0 x2) (n459 x0 x2) (n460 x0 x2) (n461 x0 x2) (n462 x0 x2)
def n556 : FVec F S256x128 .f32 := k0_pay541 (n423 x0 x2) (n424 x0 x2) (n425 x0 x2) (n426 x0 x2) (n427 x0 x2) (n428 x0 x2) (n429 x0 x2) (n430 x0 x2) (n455 x0 x2) (n456 x0 x2) (n457 x0 x2) (n458 x0 x2) (n459 x0 x2) (n460 x0 x2) (n461 x0 x2) (n462 x0 x2)
def n557 : FVec F S256x128 .f32 := k0_pay542 (n423 x0 x2) (n424 x0 x2) (n425 x0 x2) (n426 x0 x2) (n427 x0 x2) (n428 x0 x2) (n429 x0 x2) (n430 x0 x2) (n455 x0 x2) (n456 x0 x2) (n457 x0 x2) (n458 x0 x2) (n459 x0 x2) (n460 x0 x2) (n461 x0 x2) (n462 x0 x2)
def n558 : FVec F S256x128 .f32 := k0_pay543 (n423 x0 x2) (n424 x0 x2) (n425 x0 x2) (n426 x0 x2) (n427 x0 x2) (n428 x0 x2) (n429 x0 x2) (n430 x0 x2) (n455 x0 x2) (n456 x0 x2) (n457 x0 x2) (n458 x0 x2) (n459 x0 x2) (n460 x0 x2) (n461 x0 x2) (n462 x0 x2)
def n575 : FVec F S256x128 .f32 := k0_pay560 (n487 x0 x2) (n489 x0 x2) (n491 x0 x2) (n493 x0 x2) (n515 x0 x2) (n516 x0 x2) (n517 x0 x2) (n518 x0 x2) (n520 x0 x2) (n522 x0 x2)
def n576 : FVec F S256x128 .f32 := k0_pay561 (n487 x0 x2) (n489 x0 x2) (n491 x0 x2) (n493 x0 x2) (n515 x0 x2) (n516 x0 x2) (n517 x0 x2) (n518 x0 x2) (n520 x0 x2) (n522 x0 x2)
def n577 : FVec F S256x128 .f32 := k0_pay562 (n488 x0 x2) (n490 x0 x2) (n492 x0 x2) (n494 x0 x2) (n516 x0 x2) (n518 x0 x2) (n519 x0 x2) (n521 x0 x2) (n523 x0 x2)
def n578 : FVec F S256x128 .f32 := k0_pay563 (n488 x0 x2) (n490 x0 x2) (n492 x0 x2) (n494 x0 x2) (n516 x0 x2) (n518 x0 x2) (n519 x0 x2) (n521 x0 x2) (n523 x0 x2)
def n579 : FVec F S256x128 .f32 := k0_pay564 (n487 x0 x2) (n489 x0 x2) (n491 x0 x2) (n493 x0 x2) (n515 x0 x2) (n516 x0 x2) (n517 x0 x2) (n518 x0 x2) (n520 x0 x2) (n522 x0 x2)
def n580 : FVec F S256x128 .f32 := k0_pay565 (n487 x0 x2) (n489 x0 x2) (n491 x0 x2) (n493 x0 x2) (n515 x0 x2) (n516 x0 x2) (n517 x0 x2) (n518 x0 x2) (n520 x0 x2) (n522 x0 x2)
def n581 : FVec F S256x128 .f32 := k0_pay566 (n488 x0 x2) (n490 x0 x2) (n492 x0 x2) (n494 x0 x2) (n516 x0 x2) (n518 x0 x2) (n519 x0 x2) (n521 x0 x2) (n523 x0 x2)
def n582 : FVec F S256x128 .f32 := k0_pay567 (n488 x0 x2) (n490 x0 x2) (n492 x0 x2) (n494 x0 x2) (n516 x0 x2) (n518 x0 x2) (n519 x0 x2) (n521 x0 x2) (n523 x0 x2)
def n583 : FVec F S256x128 .f32 := k0_pay568 (n487 x0 x2) (n488 x0 x2) (n489 x0 x2) (n490 x0 x2) (n491 x0 x2) (n492 x0 x2) (n493 x0 x2) (n494 x0 x2) (n515 x0 x2) (n516 x0 x2) (n517 x0 x2) (n518 x0 x2) (n519 x0 x2) (n520 x0 x2) (n521 x0 x2) (n522 x0 x2) (n523 x0 x2)
def n635 : FVec F S256x1024 .f32 := k0_pay569 (n551 x0 x2) (n552 x0 x2) (n553 x0 x2) (n554 x0 x2) (n555 x0 x2) (n556 x0 x2) (n557 x0 x2) (n558 x0 x2) (n575 x0 x2) (n576 x0 x2) (n577 x0 x2) (n578 x0 x2) (n579 x0 x2) (n580 x0 x2) (n581 x0 x2) (n582 x0 x2) (n583 x0 x2)
def n638 : FVec F S256x1024 .f32 := k0_pay570 (n551 x0 x2) (n552 x0 x2) (n553 x0 x2) (n554 x0 x2) (n555 x0 x2) (n556 x0 x2) (n557 x0 x2) (n558 x0 x2) (n575 x0 x2) (n576 x0 x2) (n577 x0 x2) (n578 x0 x2) (n579 x0 x2) (n580 x0 x2) (n581 x0 x2) (n582 x0 x2) (n583 x0 x2)

end Cert.KernelIdeal.Hand

end
-- ==== Proof.KI.Vals.lean ====
module

public import proofs.«01_k».proof.Proof.KI.Net

@[expose] public section

/-! What the body leaves in each buffer at one grid point, as functions of the point's input blocks and of what the
    two running sums held before. `Fix` is the condition under which the body selects again by eight minima. -/

noncomputable section

namespace Cert.KernelIdeal.Hand

open Idealize.ShloMosaic Cert.KernelIdeal Cert.KernelIdeal.Gen

variable {F : FTy → Type} [FloatOps F]
variable (x0 : FVec F S256x64 .f32) (x1 x2 : FVec F S64x8192 .f32) (x3 : FVec F S1x8192 .f32)

/-- The exponentials of the softmax, before the division. -/
def vE : FVec F S256x8192 .f32 := k0_pay16 x0 x1 x3
/-- The column counts of the threshold mask. -/
def vCs : FVec F S1x8192 .f32 := k0_pay572 (n30 x0 x2) (n635 x0 x2) (n638 x0 x2)
/-- One over eight times the softmax denominator. -/
def vSc : FVec F S256x1 .f32 := k0_pay573 (k0_pay17 x0 x1 x3)
/-- The sparse code under the threshold mask. -/
def vRep : FVec F S256x8192 .f32 := k0_pay574 (vE x0 x1 x3) (k0_pay17 x0 x1 x3) (n30 x0 x2) (n635 x0 x2) (n638 x0 x2)
/-- The column number of each element. -/
def i714 : IVec S256x8192 32 := iota .tc S256x8192 32 [1] iota_S256x8192_d1_w32
def n750 : FVec F S256x8192 .f32 := k0_pay3 (n30 x0 x2)
def i758 : IVec S256x1 32 := k0_pay4 (n30 x0 x2)
def n798 : FVec F S256x8192 .f32 := k0_pay5 i714 (n750 x0 x2) (i758 x0 x2)
def i802 : IVec S256x8192 1 := k0_pay6 i714 (n750 x0 x2) (i758 x0 x2)

/-- The threshold mask holds more elements than eight a row. -/
abbrev Fix : Prop :=
  Scalar.cmpi .ne (Scalar.extui (Scalar.cmpf .ogt (k0_pay581 (vCs x0 x2)) (k0_pay582 (F := F)))) 0#32 = 1#1

/-- The block of sparse codes the body leaves. -/
def oRep : FVec F S256x8192 .f32 :=
  if Fix x0 x2 then k0_pay9 (vE x0 x1 x3) (vSc x0 x1 x3) i714 (n798 x0 x2) (i802 x0 x2) k0_pay7 else vRep x0 x1 x2 x3
/-- The block of reconstructions the body leaves. -/
def oZ : FVec F S256x64 .f32 :=
  if Fix x0 x2 then k0_pay11 (k0_pay14 x0) (k0_pay15 x2) (vE x0 x1 x3) (vSc x0 x1 x3) i714 (n798 x0 x2) (i802 x0 x2) k0_pay7
  else k0_pay576 (k0_pay14 x0) (k0_pay15 x2) (vRep x0 x1 x2 x3)
/-- The column counts after the point, from those before it. -/
def oC (s : FVec F S1x8192 .f32) : FVec F S1x8192 .f32 :=
  if Fix x0 x2 then k0_pay12 (vCs x0 x2) i714 (n798 x0 x2) (i802 x0 x2) k0_pay7 (k0_pay579 (vCs x0 x2) s)
  else k0_pay579 (vCs x0 x2) s
/-- The sum of squares after the point, from that before it. -/
def oS (s : F .f32) : F .f32 :=
  if Fix x0 x2 then
    k0_pay13 (k0_pay14 x0) (k0_pay15 x2) (vE x0 x1 x3) (vSc x0 x1 x3) (k0_pay577 (k0_pay14 x0) (k0_pay15 x2) (vRep x0 x1 x2 x3))
      i714 (n798 x0 x2) (i802 x0 x2) k0_pay7 (k0_pay580 (k0_pay14 x0) (k0_pay15 x2) (vRep x0 x1 x2 x3) s)
  else k0_pay580 (k0_pay14 x0) (k0_pay15 x2) (vRep x0 x1 x2 x3) s

end Cert.KernelIdeal.Hand

end
-- ==== Proof.KI.RunA.lean ====
module

public import proofs.«01_k».proof.Proof.KI.Setup
public import proofs.«01_k».proof.Proof.KI.Vals
public import Idealize.ShloMosaic.Lib.VecWindow
public import Idealize.ShloMosaic.Lib.WholeRead
public import Idealize.ShloMosaic.Lib.Pipeline.ReadBack

@[expose] public section

-- the long axes are walked one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point: it ends with the four output buffers and the two running sums at the values that
    `oRep`, `oZ`, `oC` and `oS` name, whichever way the float condition goes. -/
theorem run_A (c : Dev nD) (i : grid0.Coords) (arg1 : Memref sig .tc .vmem S256x64 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S1x8192 .f32) (harg4 : arg4.IsWhole) (arg5 : Memref sig .tc .vmem S256x8192 .f32) (harg5 : arg5.IsWhole) (arg6 : Memref sig .tc .vmem S256x64 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x8192 .f32) (harg9 : arg9.IsWhole) (arg10 : Memref sig .tc .smem S1x1 .f32) (harg10 : arg10.IsWhole) (hc0 : cond0_0 i) (hc1 : ¬cond0_1 i)
    (x0 : FVec F S256x64 .f32) (x1 : FVec F S64x8192 .f32) (x2 : FVec F S64x8192 .f32) (x3 : FVec F S1x8192 .f32) (xi6 : FVec F S1x1 .f32) (xi7 : FVec F S1x1 .f32)
    (E : Set ℕ) (K : PUnit → sProp 𝕄) :
      iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (oRep x0 x1 x2 x3) ∗ owns (c : Thread nD τ) arg6 fullShare (oZ x0 x1 x2 x3) ∗ owns (c : Thread nD τ) arg7 fullShare xi6 ∗ owns (c : Thread nD τ) arg8 fullShare xi7 ∗ owns (c : Thread nD τ) arg9 fullShare (oC x0 x2 (k0_pay578 (F := F))) ∗ owns (c : Thread nD τ) arg10 fullShare (fun _ => (oS x0 x1 x2 x3 (Scalar.ofBits .f32 0x00000000#32)))) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10) K := by
  simp only [cc0__fused_body_eq_skeleton]; unfold cc0__fused_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%e0, %fs0, -, HS0⟩, ⟨%e1, %fs1, -, HS1⟩, Hk⟩
  obtain rfl := harg1.eq_unread hf0; obtain rfl := harg2.eq_unread hf1; obtain rfl := harg3.eq_unread hf2; obtain rfl := harg4.eq_unread hf3; obtain rfl := harg7.eq_unread hf6; obtain rfl := harg8.eq_unread hf7
  sl_exec (disch := first | sl_exact hc0 | sl_exact hc1)
  sl_step
  have e0 : (View.readAt (Elt F) arg1.view (Rect.unit (s := S256x64) ![0, 0] S256x64.size inb_S256x64_S256x64_0_0).toLoadRect (harg1.unread x0)) = x0 :=
    (View.readAt_full _ _ _).trans (harg1.read_unread (Val := Elt F) x0)
  have e1 : (View.readAt (Elt F) arg2.view (Rect.unit (s := S64x8192) ![0, 0] S64x8192.size inb_S64x8192_S64x8192_0_0).toLoadRect (harg2.unread x1)) = x1 :=
    (View.readAt_full _ _ _).trans (harg2.read_unread (Val := Elt F) x1)
  have e2 : (View.readAt (Elt F) arg3.view (Rect.unit (s := S64x8192) ![0, 0] S64x8192.size inb_S64x8192_S64x8192_0_0).toLoadRect (harg3.unread x2)) = x2 :=
    (View.readAt_full _ _ _).trans (harg3.read_unread (Val := Elt F) x2)
  have e3 : (View.readAt (Elt F) arg4.view (Rect.unit (s := S1x8192) ![0, 0] S1x8192.size inb_S1x8192_S1x8192_0_0).toLoadRect (harg4.unread x3)) = x3 :=
    (View.readAt_full _ _ _).trans (harg4.read_unread (Val := Elt F) x3)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine Eq.trans (?_ : _ = (oRep ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))))) (by rw [e0, e1, e2, e3])
    unfold oRep
    split
    · rename_i hf
      rw [if_pos (show Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      rfl
    · rename_i hf
      rw [if_neg (show ¬ Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      rfl
  isplitl [H5]
  · iexists _; isplitr
    swap; · iexact H5
    ipureintro
    refine Eq.trans (?_ : _ = (oZ ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))))) (by rw [e0, e1, e2, e3])
    unfold oZ
    split
    · rename_i hf
      rw [if_pos (show Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      rfl
    · rename_i hf
      rw [if_neg (show ¬ Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      rfl
  isplitl [H6]
  · iexists _; isplitr; · ipureintro; exact harg7.read_unread _
    iexact H6
  isplitl [H7]
  · iexists _; isplitr; · ipureintro; exact harg8.read_unread _
    iexact H7
  isplitl [HS0]
  · iexists _; isplitr
    swap; · iexact HS0
    ipureintro
    refine Eq.trans (?_ : _ = (oC ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2))) (k0_pay578 (F := F)))) (by rw [e0, e2])
    unfold oC
    split
    · rename_i hf
      rw [if_pos (show Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      exact congrArg (k0_pay12 (vCs ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2)))) i714 (n798 ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2)))) (i802 ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2)))) k0_pay7) ((View.readCov_full _ _ _ _ _).trans (congrArg (k0_pay579 (vCs ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2))))) (View.readCov_full _ _ _ _ _)))
    · rename_i hf
      rw [if_neg (show ¬ Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      exact congrArg (k0_pay579 (vCs ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2))))) (View.readCov_full _ _ _ _ _)
  · iexists _; isplitr
    swap; · iexact HS1
    ipureintro
    refine Eq.trans (?_ : _ = (fun _ => oS ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))) (Scalar.ofBits .f32 0x00000000#32))) (by rw [e0, e1, e2, e3])
    unfold oS
    split
    · rename_i hf
      rw [if_pos (show Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      funext x
      refine congrArg (k0_pay13 (k0_pay14 ((View.readAt (Elt F) arg1.view (Rect.unit (s := S256x64) ![0, 0] S256x64.size inb_S256x64_S256x64_0_0).toLoadRect (harg1.unread x0)))) (k0_pay15 ((View.readAt (Elt F) arg3.view (Rect.unit (s := S64x8192) ![0, 0] S64x8192.size inb_S64x8192_S64x8192_0_0).toLoadRect (harg3.unread x2)))) (vE ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg4.view (Rect.unit (s := S1x8192) ![0, 0] S1x8192.size inb_S1x8192_S1x8192_0_0).toLoadRect (harg4.unread x3)))) (vSc ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg4.view (Rect.unit (s := S1x8192) ![0, 0] S1x8192.size inb_S1x8192_S1x8192_0_0).toLoadRect (harg4.unread x3)))) (k0_pay577 (k0_pay14 ((View.readAt (Elt F) arg1.view (Rect.unit (s := S256x64) ![0, 0] S256x64.size inb_S256x64_S256x64_0_0).toLoadRect (harg1.unread x0)))) (k0_pay15 ((View.readAt (Elt F) arg3.view (Rect.unit (s := S64x8192) ![0, 0] S64x8192.size inb_S64x8192_S64x8192_0_0).toLoadRect (harg3.unread x2)))) (vRep ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))))) i714 (n798 ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2)))) (i802 ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2)))) k0_pay7) ?_
      exact congrArg (k0_pay580 (k0_pay14 ((View.readAt (Elt F) arg1.view (Rect.unit (s := S256x64) ![0, 0] S256x64.size inb_S256x64_S256x64_0_0).toLoadRect (harg1.unread x0)))) (k0_pay15 ((View.readAt (Elt F) arg3.view (Rect.unit (s := S64x8192) ![0, 0] S64x8192.size inb_S64x8192_S64x8192_0_0).toLoadRect (harg3.unread x2)))) (vRep ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))))) rfl
    · rename_i hf
      rw [if_neg (show ¬ Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      funext x
      exact congrArg (k0_pay580 (k0_pay14 ((View.readAt (Elt F) arg1.view (Rect.unit (s := S256x64) ![0, 0] S256x64.size inb_S256x64_S256x64_0_0).toLoadRect (harg1.unread x0)))) (k0_pay15 ((View.readAt (Elt F) arg3.view (Rect.unit (s := S64x8192) ![0, 0] S64x8192.size inb_S64x8192_S64x8192_0_0).toLoadRect (harg3.unread x2)))) (vRep ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))))) rfl

end Cert.KernelIdeal.Hand

end
-- ==== Proof.KI.RunB.lean ====
module

public import proofs.«01_k».proof.Proof.KI.Setup
public import proofs.«01_k».proof.Proof.KI.Vals
public import Idealize.ShloMosaic.Lib.VecWindow
public import Idealize.ShloMosaic.Lib.WholeRead
public import Idealize.ShloMosaic.Lib.Pipeline.ReadBack

@[expose] public section

-- the long axes are walked one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point between the first and the last: it ends with the four output buffers and the two running sums at the values that
    `oRep`, `oZ`, `oC` and `oS` name, whichever way the float condition goes. -/
theorem run_B (c : Dev nD) (i : grid0.Coords) (arg1 : Memref sig .tc .vmem S256x64 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S1x8192 .f32) (harg4 : arg4.IsWhole) (arg5 : Memref sig .tc .vmem S256x8192 .f32) (harg5 : arg5.IsWhole) (arg6 : Memref sig .tc .vmem S256x64 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x8192 .f32) (harg9 : arg9.IsWhole) (arg10 : Memref sig .tc .smem S1x1 .f32) (harg10 : arg10.IsWhole) (hc0 : ¬cond0_0 i) (hc1 : ¬cond0_1 i)
    (x0 : FVec F S256x64 .f32) (x1 : FVec F S64x8192 .f32) (x2 : FVec F S64x8192 .f32) (x3 : FVec F S1x8192 .f32) (xs0 : FVec F S1x8192 .f32) (xs1 : F .f32) (xi6 : FVec F S1x1 .f32) (xi7 : FVec F S1x1 .f32)
    (E : Set ℕ) (K : PUnit → sProp 𝕄) :
      iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare (fun _ => xs1)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (oRep x0 x1 x2 x3) ∗ owns (c : Thread nD τ) arg6 fullShare (oZ x0 x1 x2 x3) ∗ owns (c : Thread nD τ) arg7 fullShare xi6 ∗ owns (c : Thread nD τ) arg8 fullShare xi7 ∗ owns (c : Thread nD τ) arg9 fullShare (oC x0 x2 xs0) ∗ owns (c : Thread nD τ) arg10 fullShare (fun _ => (oS x0 x1 x2 x3 xs1))) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10) K := by
  simp only [cc0__fused_body_eq_skeleton]; unfold cc0__fused_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg7.eq_unread hf6; obtain rfl := harg8.eq_unread hf7; obtain rfl := harg9.eq_unread hfs0; obtain rfl := harg10.eq_unread hfs1
  sl_exec (disch := first | sl_exact hc0 | sl_exact hc1)
  sl_step
  have e0 : (View.readAt (Elt F) arg1.view (Rect.unit (s := S256x64) ![0, 0] S256x64.size inb_S256x64_S256x64_0_0).toLoadRect (harg1.unread x0)) = x0 :=
    (View.readAt_full _ _ _).trans (harg1.read_unread (Val := Elt F) x0)
  have e1 : (View.readAt (Elt F) arg2.view (Rect.unit (s := S64x8192) ![0, 0] S64x8192.size inb_S64x8192_S64x8192_0_0).toLoadRect (harg2.unread x1)) = x1 :=
    (View.readAt_full _ _ _).trans (harg2.read_unread (Val := Elt F) x1)
  have e2 : (View.readAt (Elt F) arg3.view (Rect.unit (s := S64x8192) ![0, 0] S64x8192.size inb_S64x8192_S64x8192_0_0).toLoadRect (harg3.unread x2)) = x2 :=
    (View.readAt_full _ _ _).trans (harg3.read_unread (Val := Elt F) x2)
  have e3 : (View.readAt (Elt F) arg4.view (Rect.unit (s := S1x8192) ![0, 0] S1x8192.size inb_S1x8192_S1x8192_0_0).toLoadRect (harg4.unread x3)) = x3 :=
    (View.readAt_full _ _ _).trans (harg4.read_unread (Val := Elt F) x3)
  have e9 : View.readAt (Elt F) arg9.view (Rect.unit (s := S1x8192) ![0, 0] S1x8192.size inb_S1x8192_S1x8192_0_0).toLoadRect (harg9.unread xs0) = xs0 :=
    (View.readAt_full _ _ _).trans (harg9.read_unread (Val := Elt F) xs0)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine Eq.trans (?_ : _ = (oRep ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))))) (by rw [e0, e1, e2, e3])
    unfold oRep
    split
    · rename_i hf
      rw [if_pos (show Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      rfl
    · rename_i hf
      rw [if_neg (show ¬ Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      rfl
  isplitl [H5]
  · iexists _; isplitr
    swap; · iexact H5
    ipureintro
    refine Eq.trans (?_ : _ = (oZ ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))))) (by rw [e0, e1, e2, e3])
    unfold oZ
    split
    · rename_i hf
      rw [if_pos (show Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      rfl
    · rename_i hf
      rw [if_neg (show ¬ Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      rfl
  isplitl [H6]
  · iexists _; isplitr; · ipureintro; exact harg7.read_unread _
    iexact H6
  isplitl [H7]
  · iexists _; isplitr; · ipureintro; exact harg8.read_unread _
    iexact H7
  isplitl [HS0]
  · iexists _; isplitr
    swap; · iexact HS0
    ipureintro
    refine Eq.trans (?_ : _ = (oC ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2))) xs0)) (by rw [e0, e2])
    unfold oC
    split
    · rename_i hf
      rw [if_pos (show Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      exact congrArg (k0_pay12 (vCs ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2)))) i714 (n798 ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2)))) (i802 ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2)))) k0_pay7) ((View.readCov_full _ _ _ _ _).trans (congrArg (k0_pay579 (vCs ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2))))) e9))
    · rename_i hf
      rw [if_neg (show ¬ Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      exact congrArg (k0_pay579 (vCs ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2))))) e9
  · iexists _; isplitr
    swap; · iexact HS1
    ipureintro
    refine Eq.trans (?_ : _ = (fun _ => oS ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))) xs1)) (by rw [e0, e1, e2, e3])
    unfold oS
    split
    · rename_i hf
      rw [if_pos (show Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      funext x
      refine congrArg (k0_pay13 (k0_pay14 ((View.readAt (Elt F) arg1.view (Rect.unit (s := S256x64) ![0, 0] S256x64.size inb_S256x64_S256x64_0_0).toLoadRect (harg1.unread x0)))) (k0_pay15 ((View.readAt (Elt F) arg3.view (Rect.unit (s := S64x8192) ![0, 0] S64x8192.size inb_S64x8192_S64x8192_0_0).toLoadRect (harg3.unread x2)))) (vE ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg4.view (Rect.unit (s := S1x8192) ![0, 0] S1x8192.size inb_S1x8192_S1x8192_0_0).toLoadRect (harg4.unread x3)))) (vSc ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg4.view (Rect.unit (s := S1x8192) ![0, 0] S1x8192.size inb_S1x8192_S1x8192_0_0).toLoadRect (harg4.unread x3)))) (k0_pay577 (k0_pay14 ((View.readAt (Elt F) arg1.view (Rect.unit (s := S256x64) ![0, 0] S256x64.size inb_S256x64_S256x64_0_0).toLoadRect (harg1.unread x0)))) (k0_pay15 ((View.readAt (Elt F) arg3.view (Rect.unit (s := S64x8192) ![0, 0] S64x8192.size inb_S64x8192_S64x8192_0_0).toLoadRect (harg3.unread x2)))) (vRep ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))))) i714 (n798 ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2)))) (i802 ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2)))) k0_pay7) ?_
      exact congrArg (k0_pay580 (k0_pay14 ((View.readAt (Elt F) arg1.view (Rect.unit (s := S256x64) ![0, 0] S256x64.size inb_S256x64_S256x64_0_0).toLoadRect (harg1.unread x0)))) (k0_pay15 ((View.readAt (Elt F) arg3.view (Rect.unit (s := S64x8192) ![0, 0] S64x8192.size inb_S64x8192_S64x8192_0_0).toLoadRect (harg3.unread x2)))) (vRep ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))))) (harg10.readAt_unread _ _ _)
    · rename_i hf
      rw [if_neg (show ¬ Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      funext x
      exact congrArg (k0_pay580 (k0_pay14 ((View.readAt (Elt F) arg1.view (Rect.unit (s := S256x64) ![0, 0] S256x64.size inb_S256x64_S256x64_0_0).toLoadRect (harg1.unread x0)))) (k0_pay15 ((View.readAt (Elt F) arg3.view (Rect.unit (s := S64x8192) ![0, 0] S64x8192.size inb_S64x8192_S64x8192_0_0).toLoadRect (harg3.unread x2)))) (vRep ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))))) (harg10.readAt_unread _ _ _)

end Cert.KernelIdeal.Hand

end
-- ==== Proof.KI.RunC.lean ====
module

public import proofs.«01_k».proof.Proof.KI.Setup
public import proofs.«01_k».proof.Proof.KI.Vals
public import Idealize.ShloMosaic.Lib.VecWindow
public import Idealize.ShloMosaic.Lib.WholeRead
public import Idealize.ShloMosaic.Lib.Pipeline.ReadBack

@[expose] public section

-- the long axes are walked one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point: it ends with the four output buffers and the two running sums at the values that
    `oRep`, `oZ`, `oC` and `oS` name, whichever way the float condition goes. -/
theorem run_C (c : Dev nD) (i : grid0.Coords) (arg1 : Memref sig .tc .vmem S256x64 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S1x8192 .f32) (harg4 : arg4.IsWhole) (arg5 : Memref sig .tc .vmem S256x8192 .f32) (harg5 : arg5.IsWhole) (arg6 : Memref sig .tc .vmem S256x64 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x8192 .f32) (harg9 : arg9.IsWhole) (arg10 : Memref sig .tc .smem S1x1 .f32) (harg10 : arg10.IsWhole) (hc0 : ¬cond0_0 i) (hc1 : cond0_1 i)
    (x0 : FVec F S256x64 .f32) (x1 : FVec F S64x8192 .f32) (x2 : FVec F S64x8192 .f32) (x3 : FVec F S1x8192 .f32) (xs0 : FVec F S1x8192 .f32) (xs1 : F .f32)
    (E : Set ℕ) (K : PUnit → sProp 𝕄) :
      iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare (fun _ => xs1)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (oRep x0 x1 x2 x3) ∗ owns (c : Thread nD τ) arg6 fullShare (oZ x0 x1 x2 x3) ∗ owns (c : Thread nD τ) arg7 fullShare (k0_pay1 (oS x0 x1 x2 x3 xs1)) ∗ owns (c : Thread nD τ) arg8 fullShare (k0_pay2 (oC x0 x2 xs0)) ∗ owns (c : Thread nD τ) arg9 fullShare (oC x0 x2 xs0) ∗ owns (c : Thread nD τ) arg10 fullShare (fun _ => (oS x0 x1 x2 x3 xs1))) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10) K := by
  simp only [cc0__fused_body_eq_skeleton]; unfold cc0__fused_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg9.eq_unread hfs0; obtain rfl := harg10.eq_unread hfs1
  sl_exec (disch := first | sl_exact hc0 | sl_exact hc1)
  sl_step
  have e0 : (View.readAt (Elt F) arg1.view (Rect.unit (s := S256x64) ![0, 0] S256x64.size inb_S256x64_S256x64_0_0).toLoadRect (harg1.unread x0)) = x0 :=
    (View.readAt_full _ _ _).trans (harg1.read_unread (Val := Elt F) x0)
  have e1 : (View.readAt (Elt F) arg2.view (Rect.unit (s := S64x8192) ![0, 0] S64x8192.size inb_S64x8192_S64x8192_0_0).toLoadRect (harg2.unread x1)) = x1 :=
    (View.readAt_full _ _ _).trans (harg2.read_unread (Val := Elt F) x1)
  have e2 : (View.readAt (Elt F) arg3.view (Rect.unit (s := S64x8192) ![0, 0] S64x8192.size inb_S64x8192_S64x8192_0_0).toLoadRect (harg3.unread x2)) = x2 :=
    (View.readAt_full _ _ _).trans (harg3.read_unread (Val := Elt F) x2)
  have e3 : (View.readAt (Elt F) arg4.view (Rect.unit (s := S1x8192) ![0, 0] S1x8192.size inb_S1x8192_S1x8192_0_0).toLoadRect (harg4.unread x3)) = x3 :=
    (View.readAt_full _ _ _).trans (harg4.read_unread (Val := Elt F) x3)
  have e9 : View.readAt (Elt F) arg9.view (Rect.unit (s := S1x8192) ![0, 0] S1x8192.size inb_S1x8192_S1x8192_0_0).toLoadRect (harg9.unread xs0) = xs0 :=
    (View.readAt_full _ _ _).trans (harg9.read_unread (Val := Elt F) xs0)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    refine Eq.trans (?_ : _ = (oRep ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))))) (by rw [e0, e1, e2, e3])
    unfold oRep
    split
    · rename_i hf
      rw [if_pos (show Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      rfl
    · rename_i hf
      rw [if_neg (show ¬ Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      rfl
  isplitl [H5]
  · iexists _; isplitr
    swap; · iexact H5
    ipureintro
    refine Eq.trans (?_ : _ = (oZ ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))))) (by rw [e0, e1, e2, e3])
    unfold oZ
    split
    · rename_i hf
      rw [if_pos (show Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      rfl
    · rename_i hf
      rw [if_neg (show ¬ Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      rfl
  isplitl [H6]
  · iexists _; isplitr
    swap; · iexact H6
    ipureintro
    refine (View.read_writes_full _ _ _ _ _).trans ?_
    refine congrArg k0_pay1 ((congrFun (View.readAt_full _ _ _) _).trans ?_)
    refine Eq.trans (?_ : _ = oS ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))) xs1) (by rw [e0, e1, e2, e3])
    unfold oS
    split
    · rename_i hf
      rw [if_pos (show Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (congrFun (View.read_writes_full _ _ _ _ _) _).trans ?_
      refine congrArg (k0_pay13 (k0_pay14 ((View.readAt (Elt F) arg1.view (Rect.unit (s := S256x64) ![0, 0] S256x64.size inb_S256x64_S256x64_0_0).toLoadRect (harg1.unread x0)))) (k0_pay15 ((View.readAt (Elt F) arg3.view (Rect.unit (s := S64x8192) ![0, 0] S64x8192.size inb_S64x8192_S64x8192_0_0).toLoadRect (harg3.unread x2)))) (vE ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg4.view (Rect.unit (s := S1x8192) ![0, 0] S1x8192.size inb_S1x8192_S1x8192_0_0).toLoadRect (harg4.unread x3)))) (vSc ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg4.view (Rect.unit (s := S1x8192) ![0, 0] S1x8192.size inb_S1x8192_S1x8192_0_0).toLoadRect (harg4.unread x3)))) (k0_pay577 (k0_pay14 ((View.readAt (Elt F) arg1.view (Rect.unit (s := S256x64) ![0, 0] S256x64.size inb_S256x64_S256x64_0_0).toLoadRect (harg1.unread x0)))) (k0_pay15 ((View.readAt (Elt F) arg3.view (Rect.unit (s := S64x8192) ![0, 0] S64x8192.size inb_S64x8192_S64x8192_0_0).toLoadRect (harg3.unread x2)))) (vRep ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))))) i714 (n798 ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2)))) (i802 ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2)))) k0_pay7) ?_
      exact congrArg (k0_pay580 (k0_pay14 ((View.readAt (Elt F) arg1.view (Rect.unit (s := S256x64) ![0, 0] S256x64.size inb_S256x64_S256x64_0_0).toLoadRect (harg1.unread x0)))) (k0_pay15 ((View.readAt (Elt F) arg3.view (Rect.unit (s := S64x8192) ![0, 0] S64x8192.size inb_S64x8192_S64x8192_0_0).toLoadRect (harg3.unread x2)))) (vRep ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))))) (harg10.readAt_unread _ _ _)
    · rename_i hf
      rw [if_neg (show ¬ Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (congrFun (View.read_writes_full _ _ _ _ _) _).trans ?_
      exact congrArg (k0_pay580 (k0_pay14 ((View.readAt (Elt F) arg1.view (Rect.unit (s := S256x64) ![0, 0] S256x64.size inb_S256x64_S256x64_0_0).toLoadRect (harg1.unread x0)))) (k0_pay15 ((View.readAt (Elt F) arg3.view (Rect.unit (s := S64x8192) ![0, 0] S64x8192.size inb_S64x8192_S64x8192_0_0).toLoadRect (harg3.unread x2)))) (vRep ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))))) (harg10.readAt_unread _ _ _)
  isplitl [H7]
  · iexists _; isplitr
    swap; · iexact H7
    ipureintro
    refine (View.read_writes_full _ _ _ _ _).trans ?_
    refine congrArg k0_pay2 ((View.readAt_full _ _ _).trans ?_)
    refine Eq.trans (?_ : _ = oC ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2))) xs0) (by rw [e0, e2])
    unfold oC
    split
    · rename_i hf
      rw [if_pos (show Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      exact congrArg (k0_pay12 (vCs ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2)))) i714 (n798 ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2)))) (i802 ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2)))) k0_pay7) ((View.readCov_full _ _ _ _ _).trans (congrArg (k0_pay579 (vCs ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2))))) e9))
    · rename_i hf
      rw [if_neg (show ¬ Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      exact congrArg (k0_pay579 (vCs ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2))))) e9
  isplitl [HS0]
  · iexists _; isplitr
    swap; · iexact HS0
    ipureintro
    refine Eq.trans (?_ : _ = (oC ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2))) xs0)) (by rw [e0, e2])
    unfold oC
    split
    · rename_i hf
      rw [if_pos (show Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      exact congrArg (k0_pay12 (vCs ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2)))) i714 (n798 ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2)))) (i802 ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2)))) k0_pay7) ((View.readCov_full _ _ _ _ _).trans (congrArg (k0_pay579 (vCs ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2))))) e9))
    · rename_i hf
      rw [if_neg (show ¬ Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      exact congrArg (k0_pay579 (vCs ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2))))) e9
  · iexists _; isplitr
    swap; · iexact HS1
    ipureintro
    refine Eq.trans (?_ : _ = (fun _ => oS ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))) xs1)) (by rw [e0, e1, e2, e3])
    unfold oS
    split
    · rename_i hf
      rw [if_pos (show Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      funext x
      refine congrArg (k0_pay13 (k0_pay14 ((View.readAt (Elt F) arg1.view (Rect.unit (s := S256x64) ![0, 0] S256x64.size inb_S256x64_S256x64_0_0).toLoadRect (harg1.unread x0)))) (k0_pay15 ((View.readAt (Elt F) arg3.view (Rect.unit (s := S64x8192) ![0, 0] S64x8192.size inb_S64x8192_S64x8192_0_0).toLoadRect (harg3.unread x2)))) (vE ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg4.view (Rect.unit (s := S1x8192) ![0, 0] S1x8192.size inb_S1x8192_S1x8192_0_0).toLoadRect (harg4.unread x3)))) (vSc ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg4.view (Rect.unit (s := S1x8192) ![0, 0] S1x8192.size inb_S1x8192_S1x8192_0_0).toLoadRect (harg4.unread x3)))) (k0_pay577 (k0_pay14 ((View.readAt (Elt F) arg1.view (Rect.unit (s := S256x64) ![0, 0] S256x64.size inb_S256x64_S256x64_0_0).toLoadRect (harg1.unread x0)))) (k0_pay15 ((View.readAt (Elt F) arg3.view (Rect.unit (s := S64x8192) ![0, 0] S64x8192.size inb_S64x8192_S64x8192_0_0).toLoadRect (harg3.unread x2)))) (vRep ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))))) i714 (n798 ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2)))) (i802 ((View.readAt (Elt F) arg1.view (Rect.unit (s := S256x64) ![0, 0] S256x64.size inb_S256x64_S256x64_0_0).toLoadRect (harg1.unread x0))) ((View.readAt (Elt F) arg3.view (Rect.unit (s := S64x8192) ![0, 0] S64x8192.size inb_S64x8192_S64x8192_0_0).toLoadRect (harg3.unread x2)))) k0_pay7) ?_
      exact congrArg (k0_pay580 (k0_pay14 ((View.readAt (Elt F) arg1.view (Rect.unit (s := S256x64) ![0, 0] S256x64.size inb_S256x64_S256x64_0_0).toLoadRect (harg1.unread x0)))) (k0_pay15 ((View.readAt (Elt F) arg3.view (Rect.unit (s := S64x8192) ![0, 0] S64x8192.size inb_S64x8192_S64x8192_0_0).toLoadRect (harg3.unread x2)))) (vRep ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))))) (harg10.readAt_unread _ _ _)
    · rename_i hf
      rw [if_neg (show ¬ Fix (View.readAt (Elt F) arg1.view (Rect.unit (s := S256x64) ![0, 0] S256x64.size inb_S256x64_S256x64_0_0).toLoadRect (harg1.unread x0)) (View.readAt (Elt F) arg3.view (Rect.unit (s := S64x8192) ![0, 0] S64x8192.size inb_S64x8192_S64x8192_0_0).toLoadRect (harg3.unread x2)) from hf)]
      refine (View.read_writes_full _ _ _ _ _).trans ?_
      funext x
      exact congrArg (k0_pay580 (k0_pay14 ((View.readAt (Elt F) arg1.view (Rect.unit (s := S256x64) ![0, 0] S256x64.size inb_S256x64_S256x64_0_0).toLoadRect (harg1.unread x0)))) (k0_pay15 ((View.readAt (Elt F) arg3.view (Rect.unit (s := S64x8192) ![0, 0] S64x8192.size inb_S64x8192_S64x8192_0_0).toLoadRect (harg3.unread x2)))) (vRep ((View.readAt (Elt F) arg1.view (Rect.unit (s := S256x64) ![0, 0] S256x64.size inb_S256x64_S256x64_0_0).toLoadRect (harg1.unread x0))) ((View.readAt (Elt F) arg2.view (Rect.unit (s := S64x8192) ![0, 0] S64x8192.size inb_S64x8192_S64x8192_0_0).toLoadRect (harg2.unread x1))) ((View.readAt (Elt F) arg3.view (Rect.unit (s := S64x8192) ![0, 0] S64x8192.size inb_S64x8192_S64x8192_0_0).toLoadRect (harg3.unread x2))) ((View.readAt (Elt F) arg4.view (Rect.unit (s := S1x8192) ![0, 0] S1x8192.size inb_S1x8192_S1x8192_0_0).toLoadRect (harg4.unread x3))))) (harg10.readAt_unread _ _ _)

end Cert.KernelIdeal.Hand

end
-- ==== Proof.KI.Run.lean ====
module

public import proofs.«01_k».proof.Proof.KI.RunA
public import proofs.«01_k».proof.Proof.KI.RunB
public import proofs.«01_k».proof.Proof.KI.RunC
public import Idealize.ShloMosaic.Lib.Claim

@[expose] public section

-- the long axes are walked one coordinate at a time
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two running sums before point `n`: the column counts, and the sum of squares. -/
def sAt (c : Dev nD) : (n : ℕ) → n ≤ cfg0.N → FVec F S1x8192 .f32 × F .f32
  | 0, _ => (k0_pay578 (F := F), Scalar.ofBits .f32 0x00000000#32)
  | n + 1, hn =>
    (oC (iblk m c 0 ⟨n, hn⟩) (iblk m c 2 ⟨n, hn⟩) (sAt c n (Nat.le_of_succ_le hn)).1,
     oS (iblk m c 0 ⟨n, hn⟩) (iblk m c 1 ⟨n, hn⟩) (iblk m c 2 ⟨n, hn⟩) (iblk m c 3 ⟨n, hn⟩) (sAt c n (Nat.le_of_succ_le hn)).2)

/-- The invariant between points: the two scratch buffers at the running sums (before the first point at anything). -/
def PhiS (c : Dev nD) : (n : ℕ) → n ≤ cfg0.N → sProp 𝕄
  | 0, _ => Pipeline.ΦA spec0 c
  | n + 1, hn => iprop(iprop(owns (c : Thread nD τ) scM0_0 fullShare (sAt m c (n + 1) hn).1 ∗ owns (c : Thread nD τ) scM0_1 fullShare (fun _ => (sAt m c (n + 1) hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = iprop(iprop(owns (c : Thread nD τ) scM0_0 fullShare (sAt m c (n + 1) hn).1 ∗ owns (c : Thread nD τ) scM0_1 fullShare (fun _ => (sAt m c (n + 1) hn).2)) ∗ (∃ r, prngReg c r)) := rfl

theorem PhiS_pos (c : Dev nD) (n : ℕ) (h : n ≤ cfg0.N) (hz : n ≠ 0) : PhiS m c n h = iprop(iprop(owns (c : Thread nD τ) scM0_0 fullShare (sAt m c n h).1 ∗ owns (c : Thread nD τ) scM0_1 fullShare (fun _ => (sAt m c n h).2)) ∗ (∃ r, prngReg c r)) := by
  cases n with
  | zero => exact absurd rfl hz
  | succ n => rfl

theorem sAt_zero (c : Dev nD) (n : ℕ) (h : n ≤ cfg0.N) (hz : n = 0) :
    sAt m c n h = (k0_pay578 (F := F), Scalar.ofBits .f32 0x00000000#32) := by
  subst hz; rfl

theorem sAt_succ (c : Dev nD) (t : Fin cfg0.N) :
    sAt m c (t.val + 1) t.isLt = (oC (iblk m c 0 t) (iblk m c 2 t) (sAt m c t.val (Nat.le_of_lt t.isLt)).1,
      oS (iblk m c 0 t) (iblk m c 1 t) (iblk m c 2 t) (iblk m c 3 t) (sAt m c t.val (Nat.le_of_lt t.isLt)).2) := rfl

/-! ## The pipeline's proof data -/

/-- The pipeline's data: inputs at their blocks, outputs at the values named in `Vals`, the running sums between. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oRep (iblk m c 0 t) (iblk m c 1 t) (iblk m c 2 t) (iblk m c 3 t)
    | ⟨5, _⟩ => oZ (iblk m c 0 t) (iblk m c 1 t) (iblk m c 2 t) (iblk m c 3 t)
    | ⟨6, _⟩ => k0_pay1 (sAt m c (t.val + 1) t.isLt).2
    | ⟨7, _⟩ => k0_pay2 (sAt m c (t.val + 1) t.isLt).1
  Φ t := PhiS m c t.val (Nat.le_of_lt_succ t.isLt)
  q _ := fullShare
  owed _ := 0

/-- The arrays are what the region finds. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = oRep (iblk m c 0 t) (iblk m c 1 t) (iblk m c 2 t) (iblk m c 3 t) := by dsimp only [dats]
theorem after0_5 (c : Dev nD) (t : Fin cfg0.N) : (dats m 0 c).after 5 t = oZ (iblk m c 0 t) (iblk m c 1 t) (iblk m c 2 t) (iblk m c 3 t) := by dsimp only [dats]
theorem after0_6 (c : Dev nD) (t : Fin cfg0.N) : (dats m 0 c).after 6 t = k0_pay1 (sAt m c (t.val + 1) t.isLt).2 := by dsimp only [dats]
theorem after0_7 (c : Dev nD) (t : Fin cfg0.N) : (dats m 0 c).after 7 t = k0_pay2 (sAt m c (t.val + 1) t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point: the inputs hold their blocks, the closed forms say which case the point is in, and that case's run
    applies from the running sums before the point to those after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val % 32 = 31
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      by_cases hz : t.val = 0
      · rw [PhiS_castSucc m c t, PhiS_zero m c _ _ hz, PhiA0_eq]
        rw [show sAt m c (t.val + 1) t.isLt = (oC (iblk m c 0 t) (iblk m c 2 t) (k0_pay578 (F := F)), oS (iblk m c 0 t) (iblk m c 1 t) (iblk m c 2 t) (iblk m c 3 t) (Scalar.ofBits .f32 0x00000000#32)) from by
          rw [sAt_succ, sAt_zero m c _ _ hz]]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (run_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) _ _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [H7]; · iexact H7
        isplitl [HS0]; · iexact HS0
        isplitl [HS1]; · iexact HS1
        iintro ⟨H0, H1, H2, H3, H4, H5, H6, H7, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]
        · iexact H4
        isplitl [H5]
        · iexact H5
        isplitl [H6]; · iexists _; iexact H6
        iexists _; iexact H7
      · exfalso; have hN : t.val < 32 := lt_of_lt_of_eq t.isLt (show cfg0.N = 32 from N_0); omega
  · by_cases h1 : t.val % 32 = 31
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1)], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      by_cases hz : t.val = 0
      · exfalso; have hN : t.val < 32 := lt_of_lt_of_eq t.isLt (show cfg0.N = 32 from N_0); omega
      · rw [PhiS_castSucc m c t, PhiS_pos m c _ _ hz]
        rw [sAt_succ]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (run_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        isplitl [H7]; · iexists _; iexact H7
        isplitl [HS0]; · iexact HS0
        isplitl [HS1]; · iexact HS1
        iintro ⟨H0, H1, H2, H3, H4, H5, H6, H7, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]
        · iexact H4
        isplitl [H5]
        · iexact H5
        isplitl [H6]
        · iexact H6
        iexact H7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      by_cases hz : t.val = 0
      · exfalso; have hN : t.val < 32 := lt_of_lt_of_eq t.isLt (show cfg0.N = 32 from N_0); omega
      · rw [PhiS_castSucc m c t, PhiS_pos m c _ _ hz]
        rw [sAt_succ]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (run_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _ _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexact H6
        isplitl [H7]; · iexact H7
        isplitl [HS0]; · iexact HS0
        isplitl [HS1]; · iexact HS1
        iintro ⟨H0, H1, H2, H3, H4, H5, H6, H7, HS0, HS1⟩
        isplitl [HS0 HS1 Hg]
        · isplitl [HS0 HS1]
          · isplitl [HS0]
            · iexact HS0
            iexact HS1
          iexact Hg
        isplitl [Ho]; · iexact Ho
        isplitl [H0]; · iexact H0
        isplitl [H1]; · iexact H1
        isplitl [H2]; · iexact H2
        isplitl [H3]; · iexact H3
        isplitl [H4]
        · iexact H4
        isplitl [H5]
        · iexact H5
        isplitl [H6]; · iexists _; iexact H6
        iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- The launch, with the counters. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The launch: the pipeline's arrays end at what its data say, the other buffers as the lines after the region leave them. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The program runs, ends, leaves its arguments as they were, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.Frames.lean ====
/- The frames: each of the three programs runs, ends, and leaves its arguments as they were. -/
module

public import proofs.«01_k».proof.Defs
public import proofs.«01_k».proof.Proof.K.Run
public import proofs.«01_k».proof.Proof.KI.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Init
public import Idealize.ShloMosaic.Adequacy
public import Idealize.ShloMosaic.Lib.Quiescent

@[expose] public section

noncomputable section

namespace Cert.Proof

open Idealize.ShloMosaic Idealize.SL.Sem

/-- The kernel program at machine words. -/
theorem frame_p : Cert.quiescent_Kernel := fun m ρ _ => Cert.Kernel.Hand.frame m ρ

/-- The same program at extended reals. -/
theorem frame_pi : Cert.quiescent_KernelIdeal := fun m ρ _ => Cert.KernelIdeal.Hand.frame m ρ

/-- The reference at extended reals; it declares no semaphore. -/
theorem frame_ri : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run m ρ)

end Cert.Proof

end
-- ==== Proof.V.InRow.lean ====
/- A vector whose every element is a distance of the row it stands in; one round of striking out the least of each row. -/
module

public import proofs.«01_k».proof.Proof.KI.Vals
public import Idealize.ShloMosaic.Lib.Pointwise

@[expose] public section

set_option maxRecDepth 16384

noncomputable section

namespace Cert.KernelIdeal.Hand

open Idealize.ShloMosaic Cert.KernelIdeal Cert.KernelIdeal.Gen

/-- Every element of `v` is an element of the same row of the distances. -/
def InRow (x0 : FVec Ideal S256x64 .f32) (x2 : FVec Ideal S64x8192 .f32) {q : ℕ} (v : FVec Ideal ⟨2, ![256, q]⟩ .f32) : Prop :=
  ∀ (r : Fin 256) (j : Fin q), ∃ k : Fin 8192, n30 x0 x2 (ix2 r k) = v (ix2 r j)

section
variable {x0 : FVec Ideal S256x64 .f32} {x2 : FVec Ideal S64x8192 .f32}

theorem h30 : InRow x0 x2 (q := 8192) (n30 x0 x2) := fun _ j => ⟨j, rfl⟩

theorem mi {a b : FVec Ideal S256x128 .f32} (ha : InRow x0 x2 (q := 128) a) (hb : InRow x0 x2 (q := 128) b) :
    InRow x0 x2 (q := 128) (minimumf a b) := fun r j => by
  have e : minimumf a b (ix2 r j) = min (a (ix2 r j)) (b (ix2 r j)) := by pointwise
  rcases min_choice (a (ix2 r j)) (b (ix2 r j)) with h | h
  · obtain ⟨k, hk⟩ := ha r j; exact ⟨k, hk.trans (e.trans h).symm⟩
  · obtain ⟨k, hk⟩ := hb r j; exact ⟨k, hk.trans (e.trans h).symm⟩

theorem ma {a b : FVec Ideal S256x128 .f32} (ha : InRow x0 x2 (q := 128) a) (hb : InRow x0 x2 (q := 128) b) :
    InRow x0 x2 (q := 128) (maximumf a b) := fun r j => by
  have e : maximumf a b (ix2 r j) = max (a (ix2 r j)) (b (ix2 r j)) := by pointwise
  rcases max_choice (a (ix2 r j)) (b (ix2 r j)) with h | h
  · obtain ⟨k, hk⟩ := ha r j; exact ⟨k, hk.trans (e.trans h).symm⟩
  · obtain ⟨k, hk⟩ := hb r j; exact ⟨k, hk.trans (e.trans h).symm⟩

theorem sl {v : FVec Ideal S256x8192 .f32} (hv : InRow x0 x2 (q := 8192) v) {o : ℕ} (h : S256x8192.Slices ![0, o] S256x128) :
    InRow x0 x2 (q := 128) (extractStridedSlice S256x128 ![0, o] v h) := fun r j => by
  have ho : o + j.val < 8192 := lt_of_lt_of_le (Nat.add_lt_add_left j.isLt o) (h.2 1)
  obtain ⟨k, hk⟩ := hv r ⟨o + j.val, ho⟩
  refine ⟨k, hk.trans ?_⟩
  refine congrArg v (funext fun a => ?_)
  refine Fin.ext ?_
  fin_cases a
  · exact (Nat.zero_add _).symm
  · rfl

theorem cc {a b c d e f g i : FVec Ideal S256x128 .f32} (ha : InRow x0 x2 (q := 128) a) (hb : InRow x0 x2 (q := 128) b)
    (hc : InRow x0 x2 (q := 128) c) (hd : InRow x0 x2 (q := 128) d) (he : InRow x0 x2 (q := 128) e)
    (hf : InRow x0 x2 (q := 128) f) (hg : InRow x0 x2 (q := 128) g) (hi : InRow x0 x2 (q := 128) i) :
    InRow x0 x2 (q := 1024) (concatenate S256x1024 1 [⟨S256x128, a⟩, ⟨S256x128, b⟩, ⟨S256x128, c⟩, ⟨S256x128, d⟩,
      ⟨S256x128, e⟩, ⟨S256x128, f⟩, ⟨S256x128, g⟩, ⟨S256x128, i⟩]
      concatenates_S256x128_S256x128_S256x128_S256x128_S256x128_S256x128_S256x128_S256x128_S256x1024_d1) := fun r j => by
  pointwise
  split_ifs
  all_goals first | exact ha _ _ | exact hb _ _ | exact hc _ _ | exact hd _ _ | exact he _ _ | exact hf _ _ | exact hg _ _ | exact hi _ _

end

/-- The least of each row, along the row. -/
def lo (v : FVec Ideal S256x1024 .f32) : FVec Ideal S256x1024 .f32 :=
  broadcastTo S256x1024 (shapeCast S256x1 (multiReduction .minimumf [1] S256 v 0x7F800000#32 reduces_S256x1024_S256 (.inl rfl) rfl)
    shapeCasts_S256_S256x1) broadcasts_S256x1_S256x1024

/-- Every least element of each row replaced by the pattern of plus infinity. -/
def rmv (v : FVec Ideal S256x1024 .f32) : FVec Ideal S256x1024 .f32 :=
  select (cmpf .oeq v (lo v)) (broadcast S256x1024 (Scalar.ofBits .f32 0x7F800000#32)) v

/-- The threshold that the last of the rounds leaves, along each row of the distances. -/
def lo8 (v : FVec Ideal S256x1024 .f32) : FVec Ideal S256x8192 .f32 :=
  broadcastTo S256x8192 (shapeCast S256x1 (multiReduction .minimumf [1] S256 v 0x7F800000#32 reduces_S256x1024_S256 (.inl rfl) rfl)
    shapeCasts_S256_S256x1) broadcasts_S256x1_S256x8192

theorem pay571_eq (w : FVec Ideal S256x8192 .f32) (v : FVec Ideal S256x1024 .f32) : k0_pay571 w v (lo v)
    = select (cmpf .ole w (lo8 (rmv (rmv (rmv (rmv (rmv v)))))))
        (broadcast S256x8192 (Scalar.ofBits .f32 0x3F800000#32)) (broadcast S256x8192 (Scalar.ofBits .f32 0x00000000#32)) := rfl

/-- One round of striking out, in each row, the first of the least elements. -/
def fx (v : FVec Ideal S256x8192 .f32) : FVec Ideal S256x8192 .f32 :=
  select (cmpi .eq i714 (broadcastTo S256x8192 (shapeCast S256x1 (multiReductionI .minsi [1] S256
      (select (cmpf .oeq v (broadcastTo S256x8192 (shapeCast S256x1
        (multiReduction .minimumf [1] S256 v 0x7F800000#32 reduces_S256x8192_S256 (.inl rfl) rfl) shapeCasts_S256_S256x1)
        broadcasts_S256x1_S256x8192)) i714 (broadcast S256x8192 8192#32)) 2147483647#32 reduces_S256x8192_S256 rfl)
      shapeCasts_S256_S256x1) broadcasts_S256x1_S256x8192))
    (broadcast S256x8192 (Scalar.ofBits .f32 0x7F800000#32)) v

theorem pay8_eq (v : FVec Ideal S256x8192 .f32) :
    k0_pay8 i714 (k0_pay5 i714 (k0_pay3 v) (k0_pay4 v)) (k0_pay6 i714 (k0_pay3 v) (k0_pay4 v)) k0_pay7
      = select (cmpf .oeq (fx (fx (fx (fx (fx (fx (fx (fx v)))))))) (broadcast S256x8192 (Scalar.ofBits .f32 0x7F800000#32)))
          (broadcast S256x8192 (Scalar.ofBits .f32 0x3F800000#32)) (broadcast S256x8192 (Scalar.ofBits .f32 0x00000000#32)) := rfl

end Cert.KernelIdeal.Hand

end
-- ==== Proof.V.NetVals.lean ====
module

public import proofs.«01_k».proof.Proof.V.InRow

@[expose] public section

/-! Everything that the body's comparison network holds is a distance of the row it stands in. -/

set_option maxRecDepth 16384

noncomputable section

namespace Cert.KernelIdeal.Hand

open Idealize.ShloMosaic Cert.KernelIdeal Cert.KernelIdeal.Gen

variable {x0 : FVec Ideal S256x64 .f32} {x2 : FVec Ideal S64x8192 .f32}

theorem h31 : InRow x0 x2 (q := 128) (n31 x0 x2) := sl h30 slices_S256x8192_o0_0_S256x128
theorem h32 : InRow x0 x2 (q := 128) (n32 x0 x2) := sl h30 slices_S256x8192_o0_128_S256x128
theorem h33 : InRow x0 x2 (q := 128) (n33 x0 x2) := sl h30 slices_S256x8192_o0_256_S256x128
theorem h34 : InRow x0 x2 (q := 128) (n34 x0 x2) := sl h30 slices_S256x8192_o0_384_S256x128
theorem h35 : InRow x0 x2 (q := 128) (n35 x0 x2) := sl h30 slices_S256x8192_o0_512_S256x128
theorem h36 : InRow x0 x2 (q := 128) (n36 x0 x2) := sl h30 slices_S256x8192_o0_640_S256x128
theorem h37 : InRow x0 x2 (q := 128) (n37 x0 x2) := sl h30 slices_S256x8192_o0_768_S256x128
theorem h38 : InRow x0 x2 (q := 128) (n38 x0 x2) := sl h30 slices_S256x8192_o0_896_S256x128
theorem h39 : InRow x0 x2 (q := 128) (n39 x0 x2) := sl h30 slices_S256x8192_o0_1024_S256x128
theorem h40 : InRow x0 x2 (q := 128) (n40 x0 x2) := sl h30 slices_S256x8192_o0_1152_S256x128
theorem h41 : InRow x0 x2 (q := 128) (n41 x0 x2) := sl h30 slices_S256x8192_o0_1280_S256x128
theorem h42 : InRow x0 x2 (q := 128) (n42 x0 x2) := sl h30 slices_S256x8192_o0_1408_S256x128
theorem h43 : InRow x0 x2 (q := 128) (n43 x0 x2) := sl h30 slices_S256x8192_o0_1536_S256x128
theorem h44 : InRow x0 x2 (q := 128) (n44 x0 x2) := sl h30 slices_S256x8192_o0_1664_S256x128
theorem h45 : InRow x0 x2 (q := 128) (n45 x0 x2) := sl h30 slices_S256x8192_o0_1792_S256x128
theorem h46 : InRow x0 x2 (q := 128) (n46 x0 x2) := sl h30 slices_S256x8192_o0_1920_S256x128
theorem h47 : InRow x0 x2 (q := 128) (n47 x0 x2) := sl h30 slices_S256x8192_o0_2048_S256x128
theorem h48 : InRow x0 x2 (q := 128) (n48 x0 x2) := sl h30 slices_S256x8192_o0_2176_S256x128
theorem h49 : InRow x0 x2 (q := 128) (n49 x0 x2) := sl h30 slices_S256x8192_o0_2304_S256x128
theorem h50 : InRow x0 x2 (q := 128) (n50 x0 x2) := sl h30 slices_S256x8192_o0_2432_S256x128
theorem h51 : InRow x0 x2 (q := 128) (n51 x0 x2) := sl h30 slices_S256x8192_o0_2560_S256x128
theorem h52 : InRow x0 x2 (q := 128) (n52 x0 x2) := sl h30 slices_S256x8192_o0_2688_S256x128
theorem h53 : InRow x0 x2 (q := 128) (n53 x0 x2) := sl h30 slices_S256x8192_o0_2816_S256x128
theorem h54 : InRow x0 x2 (q := 128) (n54 x0 x2) := sl h30 slices_S256x8192_o0_2944_S256x128
theorem h55 : InRow x0 x2 (q := 128) (n55 x0 x2) := sl h30 slices_S256x8192_o0_3072_S256x128
theorem h56 : InRow x0 x2 (q := 128) (n56 x0 x2) := sl h30 slices_S256x8192_o0_3200_S256x128
theorem h57 : InRow x0 x2 (q := 128) (n57 x0 x2) := sl h30 slices_S256x8192_o0_3328_S256x128
theorem h58 : InRow x0 x2 (q := 128) (n58 x0 x2) := sl h30 slices_S256x8192_o0_3456_S256x128
theorem h59 : InRow x0 x2 (q := 128) (n59 x0 x2) := sl h30 slices_S256x8192_o0_3584_S256x128
theorem h60 : InRow x0 x2 (q := 128) (n60 x0 x2) := sl h30 slices_S256x8192_o0_3712_S256x128
theorem h61 : InRow x0 x2 (q := 128) (n61 x0 x2) := sl h30 slices_S256x8192_o0_3840_S256x128
theorem h62 : InRow x0 x2 (q := 128) (n62 x0 x2) := sl h30 slices_S256x8192_o0_3968_S256x128
theorem h63 : InRow x0 x2 (q := 128) (n63 x0 x2) := sl h30 slices_S256x8192_o0_4096_S256x128
theorem h64 : InRow x0 x2 (q := 128) (n64 x0 x2) := sl h30 slices_S256x8192_o0_4224_S256x128
theorem h65 : InRow x0 x2 (q := 128) (n65 x0 x2) := sl h30 slices_S256x8192_o0_4352_S256x128
theorem h66 : InRow x0 x2 (q := 128) (n66 x0 x2) := sl h30 slices_S256x8192_o0_4480_S256x128
theorem h67 : InRow x0 x2 (q := 128) (n67 x0 x2) := sl h30 slices_S256x8192_o0_4608_S256x128
theorem h68 : InRow x0 x2 (q := 128) (n68 x0 x2) := sl h30 slices_S256x8192_o0_4736_S256x128
theorem h69 : InRow x0 x2 (q := 128) (n69 x0 x2) := sl h30 slices_S256x8192_o0_4864_S256x128
theorem h70 : InRow x0 x2 (q := 128) (n70 x0 x2) := sl h30 slices_S256x8192_o0_4992_S256x128
theorem h71 : InRow x0 x2 (q := 128) (n71 x0 x2) := sl h30 slices_S256x8192_o0_5120_S256x128
theorem h72 : InRow x0 x2 (q := 128) (n72 x0 x2) := sl h30 slices_S256x8192_o0_5248_S256x128
theorem h73 : InRow x0 x2 (q := 128) (n73 x0 x2) := sl h30 slices_S256x8192_o0_5376_S256x128
theorem h74 : InRow x0 x2 (q := 128) (n74 x0 x2) := sl h30 slices_S256x8192_o0_5504_S256x128
theorem h75 : InRow x0 x2 (q := 128) (n75 x0 x2) := sl h30 slices_S256x8192_o0_5632_S256x128
theorem h76 : InRow x0 x2 (q := 128) (n76 x0 x2) := sl h30 slices_S256x8192_o0_5760_S256x128
theorem h77 : InRow x0 x2 (q := 128) (n77 x0 x2) := sl h30 slices_S256x8192_o0_5888_S256x128
theorem h78 : InRow x0 x2 (q := 128) (n78 x0 x2) := sl h30 slices_S256x8192_o0_6016_S256x128
theorem h79 : InRow x0 x2 (q := 128) (n79 x0 x2) := sl h30 slices_S256x8192_o0_6144_S256x128
theorem h80 : InRow x0 x2 (q := 128) (n80 x0 x2) := sl h30 slices_S256x8192_o0_6272_S256x128
theorem h81 : InRow x0 x2 (q := 128) (n81 x0 x2) := sl h30 slices_S256x8192_o0_6400_S256x128
theorem h82 : InRow x0 x2 (q := 128) (n82 x0 x2) := sl h30 slices_S256x8192_o0_6528_S256x128
theorem h83 : InRow x0 x2 (q := 128) (n83 x0 x2) := sl h30 slices_S256x8192_o0_6656_S256x128
theorem h84 : InRow x0 x2 (q := 128) (n84 x0 x2) := sl h30 slices_S256x8192_o0_6784_S256x128
theorem h85 : InRow x0 x2 (q := 128) (n85 x0 x2) := sl h30 slices_S256x8192_o0_6912_S256x128
theorem h86 : InRow x0 x2 (q := 128) (n86 x0 x2) := sl h30 slices_S256x8192_o0_7040_S256x128
theorem h87 : InRow x0 x2 (q := 128) (n87 x0 x2) := sl h30 slices_S256x8192_o0_7168_S256x128
theorem h88 : InRow x0 x2 (q := 128) (n88 x0 x2) := sl h30 slices_S256x8192_o0_7296_S256x128
theorem h89 : InRow x0 x2 (q := 128) (n89 x0 x2) := sl h30 slices_S256x8192_o0_7424_S256x128
theorem h90 : InRow x0 x2 (q := 128) (n90 x0 x2) := sl h30 slices_S256x8192_o0_7552_S256x128
theorem h91 : InRow x0 x2 (q := 128) (n91 x0 x2) := sl h30 slices_S256x8192_o0_7680_S256x128
theorem h92 : InRow x0 x2 (q := 128) (n92 x0 x2) := sl h30 slices_S256x8192_o0_7808_S256x128
theorem h93 : InRow x0 x2 (q := 128) (n93 x0 x2) := sl h30 slices_S256x8192_o0_7936_S256x128
theorem h94 : InRow x0 x2 (q := 128) (n94 x0 x2) := sl h30 slices_S256x8192_o0_8064_S256x128
theorem h95 : InRow x0 x2 (q := 128) (n95 x0 x2) := mi h31 h32
theorem h96 : InRow x0 x2 (q := 128) (n96 x0 x2) := ma h31 h32
theorem h97 : InRow x0 x2 (q := 128) (n97 x0 x2) := mi h33 h34
theorem h98 : InRow x0 x2 (q := 128) (n98 x0 x2) := ma h33 h34
theorem h99 : InRow x0 x2 (q := 128) (n99 x0 x2) := mi h35 h36
theorem h100 : InRow x0 x2 (q := 128) (n100 x0 x2) := ma h35 h36
theorem h101 : InRow x0 x2 (q := 128) (n101 x0 x2) := mi h37 h38
theorem h102 : InRow x0 x2 (q := 128) (n102 x0 x2) := ma h37 h38
theorem h103 : InRow x0 x2 (q := 128) (n103 x0 x2) := mi h39 h40
theorem h104 : InRow x0 x2 (q := 128) (n104 x0 x2) := ma h39 h40
theorem h105 : InRow x0 x2 (q := 128) (n105 x0 x2) := mi h41 h42
theorem h106 : InRow x0 x2 (q := 128) (n106 x0 x2) := ma h41 h42
theorem h107 : InRow x0 x2 (q := 128) (n107 x0 x2) := mi h43 h44
theorem h108 : InRow x0 x2 (q := 128) (n108 x0 x2) := ma h43 h44
theorem h109 : InRow x0 x2 (q := 128) (n109 x0 x2) := mi h45 h46
theorem h110 : InRow x0 x2 (q := 128) (n110 x0 x2) := ma h45 h46
theorem h111 : InRow x0 x2 (q := 128) (n111 x0 x2) := mi h47 h48
theorem h112 : InRow x0 x2 (q := 128) (n112 x0 x2) := ma h47 h48
theorem h113 : InRow x0 x2 (q := 128) (n113 x0 x2) := mi h49 h50
theorem h114 : InRow x0 x2 (q := 128) (n114 x0 x2) := ma h49 h50
theorem h115 : InRow x0 x2 (q := 128) (n115 x0 x2) := mi h51 h52
theorem h116 : InRow x0 x2 (q := 128) (n116 x0 x2) := ma h51 h52
theorem h117 : InRow x0 x2 (q := 128) (n117 x0 x2) := mi h53 h54
theorem h118 : InRow x0 x2 (q := 128) (n118 x0 x2) := ma h53 h54
theorem h119 : InRow x0 x2 (q := 128) (n119 x0 x2) := mi h55 h56
theorem h120 : InRow x0 x2 (q := 128) (n120 x0 x2) := ma h55 h56
theorem h121 : InRow x0 x2 (q := 128) (n121 x0 x2) := mi h57 h58
theorem h122 : InRow x0 x2 (q := 128) (n122 x0 x2) := ma h57 h58
theorem h123 : InRow x0 x2 (q := 128) (n123 x0 x2) := mi h59 h60
theorem h124 : InRow x0 x2 (q := 128) (n124 x0 x2) := ma h59 h60
theorem h125 : InRow x0 x2 (q := 128) (n125 x0 x2) := mi h61 h62
theorem h126 : InRow x0 x2 (q := 128) (n126 x0 x2) := ma h61 h62
theorem h127 : InRow x0 x2 (q := 128) (n127 x0 x2) := mi h63 h64
theorem h128 : InRow x0 x2 (q := 128) (n128 x0 x2) := ma h63 h64
theorem h129 : InRow x0 x2 (q := 128) (n129 x0 x2) := mi h65 h66
theorem h130 : InRow x0 x2 (q := 128) (n130 x0 x2) := ma h65 h66
theorem h131 : InRow x0 x2 (q := 128) (n131 x0 x2) := mi h67 h68
theorem h132 : InRow x0 x2 (q := 128) (n132 x0 x2) := ma h67 h68
theorem h133 : InRow x0 x2 (q := 128) (n133 x0 x2) := mi h69 h70
theorem h134 : InRow x0 x2 (q := 128) (n134 x0 x2) := ma h69 h70
theorem h135 : InRow x0 x2 (q := 128) (n135 x0 x2) := mi h71 h72
theorem h136 : InRow x0 x2 (q := 128) (n136 x0 x2) := ma h71 h72
theorem h137 : InRow x0 x2 (q := 128) (n137 x0 x2) := mi h73 h74
theorem h138 : InRow x0 x2 (q := 128) (n138 x0 x2) := ma h73 h74
theorem h139 : InRow x0 x2 (q := 128) (n139 x0 x2) := mi h75 h76
theorem h140 : InRow x0 x2 (q := 128) (n140 x0 x2) := ma h75 h76
theorem h141 : InRow x0 x2 (q := 128) (n141 x0 x2) := mi h77 h78
theorem h142 : InRow x0 x2 (q := 128) (n142 x0 x2) := ma h77 h78
theorem h143 : InRow x0 x2 (q := 128) (n143 x0 x2) := mi h79 h80
theorem h144 : InRow x0 x2 (q := 128) (n144 x0 x2) := ma h79 h80
theorem h145 : InRow x0 x2 (q := 128) (n145 x0 x2) := mi h81 h82
theorem h146 : InRow x0 x2 (q := 128) (n146 x0 x2) := ma h81 h82
theorem h147 : InRow x0 x2 (q := 128) (n147 x0 x2) := mi h83 h84
theorem h148 : InRow x0 x2 (q := 128) (n148 x0 x2) := ma h83 h84
theorem h149 : InRow x0 x2 (q := 128) (n149 x0 x2) := mi h85 h86
theorem h150 : InRow x0 x2 (q := 128) (n150 x0 x2) := ma h85 h86
theorem h151 : InRow x0 x2 (q := 128) (n151 x0 x2) := mi h87 h88
theorem h152 : InRow x0 x2 (q := 128) (n152 x0 x2) := ma h87 h88
theorem h153 : InRow x0 x2 (q := 128) (n153 x0 x2) := mi h89 h90
theorem h154 : InRow x0 x2 (q := 128) (n154 x0 x2) := ma h89 h90
theorem h155 : InRow x0 x2 (q := 128) (n155 x0 x2) := mi h91 h92
theorem h156 : InRow x0 x2 (q := 128) (n156 x0 x2) := ma h91 h92
theorem h157 : InRow x0 x2 (q := 128) (n157 x0 x2) := mi h93 h94
theorem h158 : InRow x0 x2 (q := 128) (n158 x0 x2) := ma h93 h94
theorem h159 : InRow x0 x2 (q := 128) (n159 x0 x2) := mi h95 h97
theorem h160 : InRow x0 x2 (q := 128) (n160 x0 x2) := ma h95 h97
theorem h161 : InRow x0 x2 (q := 128) (n161 x0 x2) := mi h96 h98
theorem h162 : InRow x0 x2 (q := 128) (n162 x0 x2) := ma h96 h98
theorem h163 : InRow x0 x2 (q := 128) (n163 x0 x2) :=
  have g1 := ma h95 h97
  have g2 := mi h96 h98
  mi g1 g2
theorem h164 : InRow x0 x2 (q := 128) (n164 x0 x2) := ma h160 h161
theorem h165 : InRow x0 x2 (q := 128) (n165 x0 x2) := mi h99 h101
theorem h168 : InRow x0 x2 (q := 128) (n168 x0 x2) := ma h100 h102
theorem h169 : InRow x0 x2 (q := 128) (n169 x0 x2) :=
  have g1 := ma h99 h101
  have g2 := mi h100 h102
  mi g1 g2
theorem h170 : InRow x0 x2 (q := 128) (n170 x0 x2) :=
  have g1 := ma h99 h101
  have g2 := mi h100 h102
  ma g1 g2
theorem h171 : InRow x0 x2 (q := 128) (n171 x0 x2) := mi h103 h105
theorem h174 : InRow x0 x2 (q := 128) (n174 x0 x2) := ma h104 h106
theorem h175 : InRow x0 x2 (q := 128) (n175 x0 x2) :=
  have g1 := ma h103 h105
  have g2 := mi h104 h106
  mi g1 g2
theorem h176 : InRow x0 x2 (q := 128) (n176 x0 x2) :=
  have g1 := ma h103 h105
  have g2 := mi h104 h106
  ma g1 g2
theorem h177 : InRow x0 x2 (q := 128) (n177 x0 x2) := mi h107 h109
theorem h180 : InRow x0 x2 (q := 128) (n180 x0 x2) := ma h108 h110
theorem h181 : InRow x0 x2 (q := 128) (n181 x0 x2) :=
  have g1 := ma h107 h109
  have g2 := mi h108 h110
  mi g1 g2
theorem h182 : InRow x0 x2 (q := 128) (n182 x0 x2) :=
  have g1 := ma h107 h109
  have g2 := mi h108 h110
  ma g1 g2
theorem h183 : InRow x0 x2 (q := 128) (n183 x0 x2) := mi h111 h113
theorem h186 : InRow x0 x2 (q := 128) (n186 x0 x2) := ma h112 h114
theorem h187 : InRow x0 x2 (q := 128) (n187 x0 x2) :=
  have g1 := ma h111 h113
  have g2 := mi h112 h114
  mi g1 g2
theorem h188 : InRow x0 x2 (q := 128) (n188 x0 x2) :=
  have g1 := ma h111 h113
  have g2 := mi h112 h114
  ma g1 g2
theorem h189 : InRow x0 x2 (q := 128) (n189 x0 x2) := mi h115 h117
theorem h192 : InRow x0 x2 (q := 128) (n192 x0 x2) := ma h116 h118
theorem h193 : InRow x0 x2 (q := 128) (n193 x0 x2) :=
  have g1 := ma h115 h117
  have g2 := mi h116 h118
  mi g1 g2
theorem h194 : InRow x0 x2 (q := 128) (n194 x0 x2) :=
  have g1 := ma h115 h117
  have g2 := mi h116 h118
  ma g1 g2
theorem h195 : InRow x0 x2 (q := 128) (n195 x0 x2) := mi h119 h121
theorem h198 : InRow x0 x2 (q := 128) (n198 x0 x2) := ma h120 h122
theorem h199 : InRow x0 x2 (q := 128) (n199 x0 x2) :=
  have g1 := ma h119 h121
  have g2 := mi h120 h122
  mi g1 g2
theorem h200 : InRow x0 x2 (q := 128) (n200 x0 x2) :=
  have g1 := ma h119 h121
  have g2 := mi h120 h122
  ma g1 g2
theorem h201 : InRow x0 x2 (q := 128) (n201 x0 x2) := mi h123 h125
theorem h204 : InRow x0 x2 (q := 128) (n204 x0 x2) := ma h124 h126
theorem h205 : InRow x0 x2 (q := 128) (n205 x0 x2) :=
  have g1 := ma h123 h125
  have g2 := mi h124 h126
  mi g1 g2
theorem h206 : InRow x0 x2 (q := 128) (n206 x0 x2) :=
  have g1 := ma h123 h125
  have g2 := mi h124 h126
  ma g1 g2
theorem h207 : InRow x0 x2 (q := 128) (n207 x0 x2) := mi h127 h129
theorem h210 : InRow x0 x2 (q := 128) (n210 x0 x2) := ma h128 h130
theorem h211 : InRow x0 x2 (q := 128) (n211 x0 x2) :=
  have g1 := ma h127 h129
  have g2 := mi h128 h130
  mi g1 g2
theorem h212 : InRow x0 x2 (q := 128) (n212 x0 x2) :=
  have g1 := ma h127 h129
  have g2 := mi h128 h130
  ma g1 g2
theorem h213 : InRow x0 x2 (q := 128) (n213 x0 x2) := mi h131 h133
theorem h216 : InRow x0 x2 (q := 128) (n216 x0 x2) := ma h132 h134
theorem h217 : InRow x0 x2 (q := 128) (n217 x0 x2) :=
  have g1 := ma h131 h133
  have g2 := mi h132 h134
  mi g1 g2
theorem h218 : InRow x0 x2 (q := 128) (n218 x0 x2) :=
  have g1 := ma h131 h133
  have g2 := mi h132 h134
  ma g1 g2
theorem h219 : InRow x0 x2 (q := 128) (n219 x0 x2) := mi h135 h137
theorem h220 : InRow x0 x2 (q := 128) (n220 x0 x2) := ma h135 h137
theorem h221 : InRow x0 x2 (q := 128) (n221 x0 x2) := mi h136 h138
theorem h222 : InRow x0 x2 (q := 128) (n222 x0 x2) := ma h136 h138
theorem h223 : InRow x0 x2 (q := 128) (n223 x0 x2) :=
  have g1 := ma h135 h137
  have g2 := mi h136 h138
  mi g1 g2
theorem h224 : InRow x0 x2 (q := 128) (n224 x0 x2) := ma h220 h221
theorem h225 : InRow x0 x2 (q := 128) (n225 x0 x2) := mi h139 h141
theorem h228 : InRow x0 x2 (q := 128) (n228 x0 x2) := ma h140 h142
theorem h229 : InRow x0 x2 (q := 128) (n229 x0 x2) :=
  have g1 := ma h139 h141
  have g2 := mi h140 h142
  mi g1 g2
theorem h230 : InRow x0 x2 (q := 128) (n230 x0 x2) :=
  have g1 := ma h139 h141
  have g2 := mi h140 h142
  ma g1 g2
theorem h231 : InRow x0 x2 (q := 128) (n231 x0 x2) := mi h143 h145
theorem h234 : InRow x0 x2 (q := 128) (n234 x0 x2) := ma h144 h146
theorem h235 : InRow x0 x2 (q := 128) (n235 x0 x2) :=
  have g1 := ma h143 h145
  have g2 := mi h144 h146
  mi g1 g2
theorem h236 : InRow x0 x2 (q := 128) (n236 x0 x2) :=
  have g1 := ma h143 h145
  have g2 := mi h144 h146
  ma g1 g2
theorem h237 : InRow x0 x2 (q := 128) (n237 x0 x2) := mi h147 h149
theorem h240 : InRow x0 x2 (q := 128) (n240 x0 x2) := ma h148 h150
theorem h241 : InRow x0 x2 (q := 128) (n241 x0 x2) :=
  have g1 := ma h147 h149
  have g2 := mi h148 h150
  mi g1 g2
theorem h242 : InRow x0 x2 (q := 128) (n242 x0 x2) :=
  have g1 := ma h147 h149
  have g2 := mi h148 h150
  ma g1 g2
theorem h243 : InRow x0 x2 (q := 128) (n243 x0 x2) := mi h151 h153
theorem h246 : InRow x0 x2 (q := 128) (n246 x0 x2) := ma h152 h154
theorem h247 : InRow x0 x2 (q := 128) (n247 x0 x2) :=
  have g1 := ma h151 h153
  have g2 := mi h152 h154
  mi g1 g2
theorem h248 : InRow x0 x2 (q := 128) (n248 x0 x2) :=
  have g1 := ma h151 h153
  have g2 := mi h152 h154
  ma g1 g2
theorem h249 : InRow x0 x2 (q := 128) (n249 x0 x2) := mi h155 h157
theorem h252 : InRow x0 x2 (q := 128) (n252 x0 x2) := ma h156 h158
theorem h253 : InRow x0 x2 (q := 128) (n253 x0 x2) :=
  have g1 := ma h155 h157
  have g2 := mi h156 h158
  mi g1 g2
theorem h254 : InRow x0 x2 (q := 128) (n254 x0 x2) :=
  have g1 := ma h155 h157
  have g2 := mi h156 h158
  ma g1 g2
theorem h255 : InRow x0 x2 (q := 128) (n255 x0 x2) := mi h159 h165
theorem h264 : InRow x0 x2 (q := 128) (n264 x0 x2) := ma h162 h168
theorem h267 : InRow x0 x2 (q := 128) (n267 x0 x2) :=
  have g1 := mi h163 h169
  have g2 := ma h159 h165
  have g3 := mi h164 h170
  have g4 := mi g2 g3
  mi g1 g4
theorem h268 : InRow x0 x2 (q := 128) (n268 x0 x2) :=
  have g1 := mi h163 h169
  have g2 := ma h159 h165
  have g3 := mi h164 h170
  have g4 := mi g2 g3
  ma g1 g4
theorem h269 : InRow x0 x2 (q := 128) (n269 x0 x2) :=
  have g1 := ma h163 h169
  have g2 := mi h162 h168
  have g3 := mi g1 g2
  have g4 := ma h159 h165
  have g5 := mi h164 h170
  have g6 := ma g4 g5
  mi g3 g6
theorem h270 : InRow x0 x2 (q := 128) (n270 x0 x2) :=
  have g1 := ma h163 h169
  have g2 := mi h162 h168
  have g3 := mi g1 g2
  have g4 := ma h159 h165
  have g5 := mi h164 h170
  have g6 := ma g4 g5
  ma g3 g6
theorem h271 : InRow x0 x2 (q := 128) (n271 x0 x2) :=
  have g1 := ma h163 h169
  have g2 := mi h162 h168
  have g3 := ma g1 g2
  have g4 := ma h164 h170
  mi g3 g4
theorem h272 : InRow x0 x2 (q := 128) (n272 x0 x2) :=
  have g1 := ma h163 h169
  have g2 := mi h162 h168
  have g3 := ma g1 g2
  have g4 := ma h164 h170
  ma g3 g4
theorem h273 : InRow x0 x2 (q := 128) (n273 x0 x2) := mi h171 h177
theorem h276 : InRow x0 x2 (q := 128) (n276 x0 x2) := ma h176 h182
theorem h277 : InRow x0 x2 (q := 128) (n277 x0 x2) :=
  have g1 := ma h171 h177
  have g2 := mi h176 h182
  mi g1 g2
theorem h278 : InRow x0 x2 (q := 128) (n278 x0 x2) :=
  have g1 := ma h171 h177
  have g2 := mi h176 h182
  ma g1 g2
theorem h279 : InRow x0 x2 (q := 128) (n279 x0 x2) := mi h175 h181
theorem h280 : InRow x0 x2 (q := 128) (n280 x0 x2) := ma h175 h181
theorem h281 : InRow x0 x2 (q := 128) (n281 x0 x2) := mi h174 h180
theorem h282 : InRow x0 x2 (q := 128) (n282 x0 x2) := ma h174 h180
theorem h283 : InRow x0 x2 (q := 128) (n283 x0 x2) :=
  have g1 := ma h175 h181
  have g2 := mi h174 h180
  mi g1 g2
theorem h285 : InRow x0 x2 (q := 128) (n285 x0 x2) := mi h279 h277
theorem h286 : InRow x0 x2 (q := 128) (n286 x0 x2) := ma h279 h277
theorem h287 : InRow x0 x2 (q := 128) (n287 x0 x2) := mi h283 h278
theorem h288 : InRow x0 x2 (q := 128) (n288 x0 x2) := ma h283 h278
theorem h289 : InRow x0 x2 (q := 128) (n289 x0 x2) :=
  have g1 := ma h280 h281
  mi g1 h276
theorem h290 : InRow x0 x2 (q := 128) (n290 x0 x2) :=
  have g1 := ma h280 h281
  ma g1 h276
theorem h291 : InRow x0 x2 (q := 128) (n291 x0 x2) := mi h183 h189
theorem h300 : InRow x0 x2 (q := 128) (n300 x0 x2) := ma h186 h192
theorem h303 : InRow x0 x2 (q := 128) (n303 x0 x2) :=
  have g1 := mi h187 h193
  have g2 := ma h183 h189
  have g3 := mi h188 h194
  have g4 := mi g2 g3
  mi g1 g4
theorem h304 : InRow x0 x2 (q := 128) (n304 x0 x2) :=
  have g1 := mi h187 h193
  have g2 := ma h183 h189
  have g3 := mi h188 h194
  have g4 := mi g2 g3
  ma g1 g4
theorem h305 : InRow x0 x2 (q := 128) (n305 x0 x2) :=
  have g1 := ma h187 h193
  have g2 := mi h186 h192
  have g3 := mi g1 g2
  have g4 := ma h183 h189
  have g5 := mi h188 h194
  have g6 := ma g4 g5
  mi g3 g6
theorem h306 : InRow x0 x2 (q := 128) (n306 x0 x2) :=
  have g1 := ma h187 h193
  have g2 := mi h186 h192
  have g3 := mi g1 g2
  have g4 := ma h183 h189
  have g5 := mi h188 h194
  have g6 := ma g4 g5
  ma g3 g6
theorem h307 : InRow x0 x2 (q := 128) (n307 x0 x2) :=
  have g1 := ma h187 h193
  have g2 := mi h186 h192
  have g3 := ma g1 g2
  have g4 := ma h188 h194
  mi g3 g4
theorem h308 : InRow x0 x2 (q := 128) (n308 x0 x2) :=
  have g1 := ma h187 h193
  have g2 := mi h186 h192
  have g3 := ma g1 g2
  have g4 := ma h188 h194
  ma g3 g4
theorem h309 : InRow x0 x2 (q := 128) (n309 x0 x2) := mi h195 h201
theorem h318 : InRow x0 x2 (q := 128) (n318 x0 x2) := ma h198 h204
theorem h321 : InRow x0 x2 (q := 128) (n321 x0 x2) :=
  have g1 := mi h199 h205
  have g2 := ma h195 h201
  have g3 := mi h200 h206
  have g4 := mi g2 g3
  mi g1 g4
theorem h322 : InRow x0 x2 (q := 128) (n322 x0 x2) :=
  have g1 := mi h199 h205
  have g2 := ma h195 h201
  have g3 := mi h200 h206
  have g4 := mi g2 g3
  ma g1 g4
theorem h323 : InRow x0 x2 (q := 128) (n323 x0 x2) :=
  have g1 := ma h199 h205
  have g2 := mi h198 h204
  have g3 := mi g1 g2
  have g4 := ma h195 h201
  have g5 := mi h200 h206
  have g6 := ma g4 g5
  mi g3 g6
theorem h324 : InRow x0 x2 (q := 128) (n324 x0 x2) :=
  have g1 := ma h199 h205
  have g2 := mi h198 h204
  have g3 := mi g1 g2
  have g4 := ma h195 h201
  have g5 := mi h200 h206
  have g6 := ma g4 g5
  ma g3 g6
theorem h325 : InRow x0 x2 (q := 128) (n325 x0 x2) :=
  have g1 := ma h199 h205
  have g2 := mi h198 h204
  have g3 := ma g1 g2
  have g4 := ma h200 h206
  mi g3 g4
theorem h326 : InRow x0 x2 (q := 128) (n326 x0 x2) :=
  have g1 := ma h199 h205
  have g2 := mi h198 h204
  have g3 := ma g1 g2
  have g4 := ma h200 h206
  ma g3 g4
theorem h327 : InRow x0 x2 (q := 128) (n327 x0 x2) := mi h207 h213
theorem h330 : InRow x0 x2 (q := 128) (n330 x0 x2) := ma h212 h218
theorem h336 : InRow x0 x2 (q := 128) (n336 x0 x2) := ma h210 h216
theorem h338 : InRow x0 x2 (q := 128) (n338 x0 x2) :=
  have g1 := ma h211 h217
  have g2 := mi h210 h216
  ma g1 g2
theorem h339 : InRow x0 x2 (q := 128) (n339 x0 x2) :=
  have g1 := mi h211 h217
  have g2 := ma h207 h213
  have g3 := mi h212 h218
  have g4 := mi g2 g3
  mi g1 g4
theorem h340 : InRow x0 x2 (q := 128) (n340 x0 x2) :=
  have g1 := mi h211 h217
  have g2 := ma h207 h213
  have g3 := mi h212 h218
  have g4 := mi g2 g3
  ma g1 g4
theorem h341 : InRow x0 x2 (q := 128) (n341 x0 x2) :=
  have g1 := ma h211 h217
  have g2 := mi h210 h216
  have g3 := mi g1 g2
  have g4 := ma h207 h213
  have g5 := mi h212 h218
  have g6 := ma g4 g5
  mi g3 g6
theorem h342 : InRow x0 x2 (q := 128) (n342 x0 x2) :=
  have g1 := ma h211 h217
  have g2 := mi h210 h216
  have g3 := mi g1 g2
  have g4 := ma h207 h213
  have g5 := mi h212 h218
  have g6 := ma g4 g5
  ma g3 g6
theorem h343 : InRow x0 x2 (q := 128) (n343 x0 x2) :=
  have g1 := ma h211 h217
  have g2 := mi h210 h216
  have g3 := ma g1 g2
  have g4 := ma h212 h218
  mi g3 g4
theorem h344 : InRow x0 x2 (q := 128) (n344 x0 x2) := ma h338 h330
theorem h345 : InRow x0 x2 (q := 128) (n345 x0 x2) := mi h219 h225
theorem h354 : InRow x0 x2 (q := 128) (n354 x0 x2) := ma h222 h228
theorem h357 : InRow x0 x2 (q := 128) (n357 x0 x2) :=
  have g1 := mi h223 h229
  have g2 := ma h219 h225
  have g3 := mi h224 h230
  have g4 := mi g2 g3
  mi g1 g4
theorem h358 : InRow x0 x2 (q := 128) (n358 x0 x2) :=
  have g1 := mi h223 h229
  have g2 := ma h219 h225
  have g3 := mi h224 h230
  have g4 := mi g2 g3
  ma g1 g4
theorem h359 : InRow x0 x2 (q := 128) (n359 x0 x2) :=
  have g1 := ma h223 h229
  have g2 := mi h222 h228
  have g3 := mi g1 g2
  have g4 := ma h219 h225
  have g5 := mi h224 h230
  have g6 := ma g4 g5
  mi g3 g6
theorem h360 : InRow x0 x2 (q := 128) (n360 x0 x2) :=
  have g1 := ma h223 h229
  have g2 := mi h222 h228
  have g3 := mi g1 g2
  have g4 := ma h219 h225
  have g5 := mi h224 h230
  have g6 := ma g4 g5
  ma g3 g6
theorem h361 : InRow x0 x2 (q := 128) (n361 x0 x2) :=
  have g1 := ma h223 h229
  have g2 := mi h222 h228
  have g3 := ma g1 g2
  have g4 := ma h224 h230
  mi g3 g4
theorem h362 : InRow x0 x2 (q := 128) (n362 x0 x2) :=
  have g1 := ma h223 h229
  have g2 := mi h222 h228
  have g3 := ma g1 g2
  have g4 := ma h224 h230
  ma g3 g4
theorem h363 : InRow x0 x2 (q := 128) (n363 x0 x2) := mi h231 h237
theorem h372 : InRow x0 x2 (q := 128) (n372 x0 x2) := ma h234 h240
theorem h375 : InRow x0 x2 (q := 128) (n375 x0 x2) :=
  have g1 := mi h235 h241
  have g2 := ma h231 h237
  have g3 := mi h236 h242
  have g4 := mi g2 g3
  mi g1 g4
theorem h376 : InRow x0 x2 (q := 128) (n376 x0 x2) :=
  have g1 := mi h235 h241
  have g2 := ma h231 h237
  have g3 := mi h236 h242
  have g4 := mi g2 g3
  ma g1 g4
theorem h377 : InRow x0 x2 (q := 128) (n377 x0 x2) :=
  have g1 := ma h235 h241
  have g2 := mi h234 h240
  have g3 := mi g1 g2
  have g4 := ma h231 h237
  have g5 := mi h236 h242
  have g6 := ma g4 g5
  mi g3 g6
theorem h378 : InRow x0 x2 (q := 128) (n378 x0 x2) :=
  have g1 := ma h235 h241
  have g2 := mi h234 h240
  have g3 := mi g1 g2
  have g4 := ma h231 h237
  have g5 := mi h236 h242
  have g6 := ma g4 g5
  ma g3 g6
theorem h379 : InRow x0 x2 (q := 128) (n379 x0 x2) :=
  have g1 := ma h235 h241
  have g2 := mi h234 h240
  have g3 := ma g1 g2
  have g4 := ma h236 h242
  mi g3 g4
theorem h380 : InRow x0 x2 (q := 128) (n380 x0 x2) :=
  have g1 := ma h235 h241
  have g2 := mi h234 h240
  have g3 := ma g1 g2
  have g4 := ma h236 h242
  ma g3 g4
theorem h381 : InRow x0 x2 (q := 128) (n381 x0 x2) := mi h243 h249
theorem h390 : InRow x0 x2 (q := 128) (n390 x0 x2) := ma h246 h252
theorem h393 : InRow x0 x2 (q := 128) (n393 x0 x2) :=
  have g1 := mi h247 h253
  have g2 := ma h243 h249
  have g3 := mi h248 h254
  have g4 := mi g2 g3
  mi g1 g4
theorem h394 : InRow x0 x2 (q := 128) (n394 x0 x2) :=
  have g1 := mi h247 h253
  have g2 := ma h243 h249
  have g3 := mi h248 h254
  have g4 := mi g2 g3
  ma g1 g4
theorem h395 : InRow x0 x2 (q := 128) (n395 x0 x2) :=
  have g1 := ma h247 h253
  have g2 := mi h246 h252
  have g3 := mi g1 g2
  have g4 := ma h243 h249
  have g5 := mi h248 h254
  have g6 := ma g4 g5
  mi g3 g6
theorem h396 : InRow x0 x2 (q := 128) (n396 x0 x2) :=
  have g1 := ma h247 h253
  have g2 := mi h246 h252
  have g3 := mi g1 g2
  have g4 := ma h243 h249
  have g5 := mi h248 h254
  have g6 := ma g4 g5
  ma g3 g6
theorem h397 : InRow x0 x2 (q := 128) (n397 x0 x2) :=
  have g1 := ma h247 h253
  have g2 := mi h246 h252
  have g3 := ma g1 g2
  have g4 := ma h248 h254
  mi g3 g4
theorem h398 : InRow x0 x2 (q := 128) (n398 x0 x2) :=
  have g1 := ma h247 h253
  have g2 := mi h246 h252
  have g3 := ma g1 g2
  have g4 := ma h248 h254
  ma g3 g4
theorem h399 : InRow x0 x2 (q := 128) (n399 x0 x2) := mi h255 h282
theorem h400 : InRow x0 x2 (q := 128) (n400 x0 x2) := mi h267 h290
theorem h401 : InRow x0 x2 (q := 128) (n401 x0 x2) := mi h268 h289
theorem h402 : InRow x0 x2 (q := 128) (n402 x0 x2) := mi h269 h288
theorem h403 : InRow x0 x2 (q := 128) (n403 x0 x2) := mi h270 h287
theorem h423 : InRow x0 x2 (q := 128) (n423 x0 x2) :=
  have g1 := mi h399 h403
  have g2 := mi h272 h285
  have g3 := mi h401 g2
  have g4 := mi g1 g3
  have g5 := mi h271 h286
  have g6 := mi h400 g5
  have g7 := mi h264 h273
  have g8 := mi h402 g7
  have g9 := mi g6 g8
  mi g4 g9
theorem h424 : InRow x0 x2 (q := 128) (n424 x0 x2) :=
  have g1 := mi h399 h403
  have g2 := mi h272 h285
  have g3 := mi h401 g2
  have g4 := mi g1 g3
  have g5 := mi h271 h286
  have g6 := mi h400 g5
  have g7 := mi h264 h273
  have g8 := mi h402 g7
  have g9 := mi g6 g8
  ma g4 g9
theorem h425 : InRow x0 x2 (q := 128) (n425 x0 x2) :=
  have g1 := mi h399 h403
  have g2 := mi h272 h285
  have g3 := mi h401 g2
  have g4 := ma g1 g3
  have g5 := mi h271 h286
  have g6 := mi h400 g5
  have g7 := mi h264 h273
  have g8 := mi h402 g7
  have g9 := ma g6 g8
  mi g4 g9
theorem h426 : InRow x0 x2 (q := 128) (n426 x0 x2) :=
  have g1 := mi h399 h403
  have g2 := mi h272 h285
  have g3 := mi h401 g2
  have g4 := ma g1 g3
  have g5 := mi h271 h286
  have g6 := mi h400 g5
  have g7 := mi h264 h273
  have g8 := mi h402 g7
  have g9 := ma g6 g8
  ma g4 g9
theorem h427 : InRow x0 x2 (q := 128) (n427 x0 x2) :=
  have g1 := ma h399 h403
  have g2 := mi h272 h285
  have g3 := ma h401 g2
  have g4 := mi g1 g3
  have g5 := mi h271 h286
  have g6 := ma h400 g5
  have g7 := mi h264 h273
  have g8 := ma h402 g7
  have g9 := mi g6 g8
  mi g4 g9
theorem h428 : InRow x0 x2 (q := 128) (n428 x0 x2) :=
  have g1 := ma h399 h403
  have g2 := mi h272 h285
  have g3 := ma h401 g2
  have g4 := mi g1 g3
  have g5 := mi h271 h286
  have g6 := ma h400 g5
  have g7 := mi h264 h273
  have g8 := ma h402 g7
  have g9 := mi g6 g8
  ma g4 g9
theorem h429 : InRow x0 x2 (q := 128) (n429 x0 x2) :=
  have g1 := ma h399 h403
  have g2 := mi h272 h285
  have g3 := ma h401 g2
  have g4 := ma g1 g3
  have g5 := mi h271 h286
  have g6 := ma h400 g5
  have g7 := mi h264 h273
  have g8 := ma h402 g7
  have g9 := ma g6 g8
  mi g4 g9
theorem h430 : InRow x0 x2 (q := 128) (n430 x0 x2) :=
  have g1 := ma h399 h403
  have g2 := mi h272 h285
  have g3 := ma h401 g2
  have g4 := ma g1 g3
  have g5 := mi h271 h286
  have g6 := ma h400 g5
  have g7 := mi h264 h273
  have g8 := ma h402 g7
  have g9 := ma g6 g8
  ma g4 g9
theorem h455 : InRow x0 x2 (q := 128) (n455 x0 x2) :=
  have g1 := mi h291 h318
  have g2 := mi h306 h323
  have g3 := mi g1 g2
  have g4 := mi h304 h325
  have g5 := mi h308 h321
  have g6 := mi g4 g5
  have g7 := mi g3 g6
  have g8 := mi h303 h326
  have g9 := mi h307 h322
  have g10 := mi g8 g9
  have g11 := mi h305 h324
  have g12 := mi h300 h309
  have g13 := mi g11 g12
  have g14 := mi g10 g13
  mi g7 g14
theorem h456 : InRow x0 x2 (q := 128) (n456 x0 x2) :=
  have g1 := mi h291 h318
  have g2 := mi h306 h323
  have g3 := mi g1 g2
  have g4 := mi h304 h325
  have g5 := mi h308 h321
  have g6 := mi g4 g5
  have g7 := mi g3 g6
  have g8 := mi h303 h326
  have g9 := mi h307 h322
  have g10 := mi g8 g9
  have g11 := mi h305 h324
  have g12 := mi h300 h309
  have g13 := mi g11 g12
  have g14 := mi g10 g13
  ma g7 g14
theorem h457 : InRow x0 x2 (q := 128) (n457 x0 x2) :=
  have g1 := mi h291 h318
  have g2 := mi h306 h323
  have g3 := mi g1 g2
  have g4 := mi h304 h325
  have g5 := mi h308 h321
  have g6 := mi g4 g5
  have g7 := ma g3 g6
  have g8 := mi h303 h326
  have g9 := mi h307 h322
  have g10 := mi g8 g9
  have g11 := mi h305 h324
  have g12 := mi h300 h309
  have g13 := mi g11 g12
  have g14 := ma g10 g13
  mi g7 g14
theorem h458 : InRow x0 x2 (q := 128) (n458 x0 x2) :=
  have g1 := mi h291 h318
  have g2 := mi h306 h323
  have g3 := mi g1 g2
  have g4 := mi h304 h325
  have g5 := mi h308 h321
  have g6 := mi g4 g5
  have g7 := ma g3 g6
  have g8 := mi h303 h326
  have g9 := mi h307 h322
  have g10 := mi g8 g9
  have g11 := mi h305 h324
  have g12 := mi h300 h309
  have g13 := mi g11 g12
  have g14 := ma g10 g13
  ma g7 g14
theorem h459 : InRow x0 x2 (q := 128) (n459 x0 x2) :=
  have g1 := mi h291 h318
  have g2 := mi h306 h323
  have g3 := ma g1 g2
  have g4 := mi h304 h325
  have g5 := mi h308 h321
  have g6 := ma g4 g5
  have g7 := mi g3 g6
  have g8 := mi h303 h326
  have g9 := mi h307 h322
  have g10 := ma g8 g9
  have g11 := mi h305 h324
  have g12 := mi h300 h309
  have g13 := ma g11 g12
  have g14 := mi g10 g13
  mi g7 g14
theorem h460 : InRow x0 x2 (q := 128) (n460 x0 x2) :=
  have g1 := mi h291 h318
  have g2 := mi h306 h323
  have g3 := ma g1 g2
  have g4 := mi h304 h325
  have g5 := mi h308 h321
  have g6 := ma g4 g5
  have g7 := mi g3 g6
  have g8 := mi h303 h326
  have g9 := mi h307 h322
  have g10 := ma g8 g9
  have g11 := mi h305 h324
  have g12 := mi h300 h309
  have g13 := ma g11 g12
  have g14 := mi g10 g13
  ma g7 g14
theorem h461 : InRow x0 x2 (q := 128) (n461 x0 x2) :=
  have g1 := mi h291 h318
  have g2 := mi h306 h323
  have g3 := ma g1 g2
  have g4 := mi h304 h325
  have g5 := mi h308 h321
  have g6 := ma g4 g5
  have g7 := ma g3 g6
  have g8 := mi h303 h326
  have g9 := mi h307 h322
  have g10 := ma g8 g9
  have g11 := mi h305 h324
  have g12 := mi h300 h309
  have g13 := ma g11 g12
  have g14 := ma g10 g13
  mi g7 g14
theorem h462 : InRow x0 x2 (q := 128) (n462 x0 x2) :=
  have g1 := mi h291 h318
  have g2 := mi h306 h323
  have g3 := ma g1 g2
  have g4 := mi h304 h325
  have g5 := mi h308 h321
  have g6 := ma g4 g5
  have g7 := ma g3 g6
  have g8 := mi h303 h326
  have g9 := mi h307 h322
  have g10 := ma g8 g9
  have g11 := mi h305 h324
  have g12 := mi h300 h309
  have g13 := ma g11 g12
  have g14 := ma g10 g13
  ma g7 g14
theorem h463 : InRow x0 x2 (q := 128) (n463 x0 x2) := mi h327 h354
theorem h487 : InRow x0 x2 (q := 128) (n487 x0 x2) :=
  have g1 := mi h342 h359
  have g2 := mi h463 g1
  have g3 := mi h340 h361
  have g4 := mi h344 h357
  have g5 := mi g3 g4
  have g6 := mi g2 g5
  have g7 := mi h339 h362
  have g8 := mi h343 h358
  have g9 := mi g7 g8
  have g10 := mi h341 h360
  have g11 := mi h336 h345
  have g12 := mi g10 g11
  have g13 := mi g9 g12
  mi g6 g13
theorem h488 : InRow x0 x2 (q := 128) (n488 x0 x2) :=
  have g1 := mi h342 h359
  have g2 := mi h463 g1
  have g3 := mi h340 h361
  have g4 := mi h344 h357
  have g5 := mi g3 g4
  have g6 := mi g2 g5
  have g7 := mi h339 h362
  have g8 := mi h343 h358
  have g9 := mi g7 g8
  have g10 := mi h341 h360
  have g11 := mi h336 h345
  have g12 := mi g10 g11
  have g13 := mi g9 g12
  ma g6 g13
theorem h489 : InRow x0 x2 (q := 128) (n489 x0 x2) :=
  have g1 := mi h342 h359
  have g2 := mi h463 g1
  have g3 := mi h340 h361
  have g4 := mi h344 h357
  have g5 := mi g3 g4
  have g6 := ma g2 g5
  have g7 := mi h339 h362
  have g8 := mi h343 h358
  have g9 := mi g7 g8
  have g10 := mi h341 h360
  have g11 := mi h336 h345
  have g12 := mi g10 g11
  have g13 := ma g9 g12
  mi g6 g13
theorem h490 : InRow x0 x2 (q := 128) (n490 x0 x2) :=
  have g1 := mi h342 h359
  have g2 := mi h463 g1
  have g3 := mi h340 h361
  have g4 := mi h344 h357
  have g5 := mi g3 g4
  have g6 := ma g2 g5
  have g7 := mi h339 h362
  have g8 := mi h343 h358
  have g9 := mi g7 g8
  have g10 := mi h341 h360
  have g11 := mi h336 h345
  have g12 := mi g10 g11
  have g13 := ma g9 g12
  ma g6 g13
theorem h491 : InRow x0 x2 (q := 128) (n491 x0 x2) :=
  have g1 := mi h342 h359
  have g2 := ma h463 g1
  have g3 := mi h340 h361
  have g4 := mi h344 h357
  have g5 := ma g3 g4
  have g6 := mi g2 g5
  have g7 := mi h339 h362
  have g8 := mi h343 h358
  have g9 := ma g7 g8
  have g10 := mi h341 h360
  have g11 := mi h336 h345
  have g12 := ma g10 g11
  have g13 := mi g9 g12
  mi g6 g13
theorem h492 : InRow x0 x2 (q := 128) (n492 x0 x2) :=
  have g1 := mi h342 h359
  have g2 := ma h463 g1
  have g3 := mi h340 h361
  have g4 := mi h344 h357
  have g5 := ma g3 g4
  have g6 := mi g2 g5
  have g7 := mi h339 h362
  have g8 := mi h343 h358
  have g9 := ma g7 g8
  have g10 := mi h341 h360
  have g11 := mi h336 h345
  have g12 := ma g10 g11
  have g13 := mi g9 g12
  ma g6 g13
theorem h493 : InRow x0 x2 (q := 128) (n493 x0 x2) :=
  have g1 := mi h342 h359
  have g2 := ma h463 g1
  have g3 := mi h340 h361
  have g4 := mi h344 h357
  have g5 := ma g3 g4
  have g6 := ma g2 g5
  have g7 := mi h339 h362
  have g8 := mi h343 h358
  have g9 := ma g7 g8
  have g10 := mi h341 h360
  have g11 := mi h336 h345
  have g12 := ma g10 g11
  have g13 := ma g9 g12
  mi g6 g13
theorem h494 : InRow x0 x2 (q := 128) (n494 x0 x2) :=
  have g1 := mi h342 h359
  have g2 := ma h463 g1
  have g3 := mi h340 h361
  have g4 := mi h344 h357
  have g5 := ma g3 g4
  have g6 := ma g2 g5
  have g7 := mi h339 h362
  have g8 := mi h343 h358
  have g9 := ma g7 g8
  have g10 := mi h341 h360
  have g11 := mi h336 h345
  have g12 := ma g10 g11
  have g13 := ma g9 g12
  ma g6 g13
theorem h515 : InRow x0 x2 (q := 128) (n515 x0 x2) :=
  have g1 := mi h363 h390
  have g2 := mi h378 h395
  have g3 := ma g1 g2
  have g4 := mi h376 h397
  have g5 := mi h380 h393
  have g6 := ma g4 g5
  mi g3 g6
theorem h516 : InRow x0 x2 (q := 128) (n516 x0 x2) :=
  have g1 := mi h363 h390
  have g2 := mi h378 h395
  have g3 := ma g1 g2
  have g4 := mi h376 h397
  have g5 := mi h380 h393
  have g6 := ma g4 g5
  ma g3 g6
theorem h517 : InRow x0 x2 (q := 128) (n517 x0 x2) :=
  have g1 := mi h375 h398
  have g2 := mi h379 h394
  have g3 := ma g1 g2
  have g4 := mi h377 h396
  have g5 := mi h372 h381
  have g6 := ma g4 g5
  mi g3 g6
theorem h518 : InRow x0 x2 (q := 128) (n518 x0 x2) :=
  have g1 := mi h375 h398
  have g2 := mi h379 h394
  have g3 := ma g1 g2
  have g4 := mi h377 h396
  have g5 := mi h372 h381
  have g6 := ma g4 g5
  ma g3 g6
theorem h519 : InRow x0 x2 (q := 128) (n519 x0 x2) :=
  have g1 := mi h363 h390
  have g2 := mi h378 h395
  have g3 := mi g1 g2
  have g4 := mi h376 h397
  have g5 := mi h380 h393
  have g6 := mi g4 g5
  have g7 := mi g3 g6
  have g8 := mi h375 h398
  have g9 := mi h379 h394
  have g10 := mi g8 g9
  have g11 := mi h377 h396
  have g12 := mi h372 h381
  have g13 := mi g11 g12
  have g14 := mi g10 g13
  mi g7 g14
theorem h520 : InRow x0 x2 (q := 128) (n520 x0 x2) :=
  have g1 := mi h363 h390
  have g2 := mi h378 h395
  have g3 := mi g1 g2
  have g4 := mi h376 h397
  have g5 := mi h380 h393
  have g6 := mi g4 g5
  have g7 := mi g3 g6
  have g8 := mi h375 h398
  have g9 := mi h379 h394
  have g10 := mi g8 g9
  have g11 := mi h377 h396
  have g12 := mi h372 h381
  have g13 := mi g11 g12
  have g14 := mi g10 g13
  ma g7 g14
theorem h521 : InRow x0 x2 (q := 128) (n521 x0 x2) :=
  have g1 := mi h363 h390
  have g2 := mi h378 h395
  have g3 := mi g1 g2
  have g4 := mi h376 h397
  have g5 := mi h380 h393
  have g6 := mi g4 g5
  have g7 := ma g3 g6
  have g8 := mi h375 h398
  have g9 := mi h379 h394
  have g10 := mi g8 g9
  have g11 := mi h377 h396
  have g12 := mi h372 h381
  have g13 := mi g11 g12
  have g14 := ma g10 g13
  mi g7 g14
theorem h522 : InRow x0 x2 (q := 128) (n522 x0 x2) :=
  have g1 := mi h363 h390
  have g2 := mi h378 h395
  have g3 := mi g1 g2
  have g4 := mi h376 h397
  have g5 := mi h380 h393
  have g6 := mi g4 g5
  have g7 := ma g3 g6
  have g8 := mi h375 h398
  have g9 := mi h379 h394
  have g10 := mi g8 g9
  have g11 := mi h377 h396
  have g12 := mi h372 h381
  have g13 := mi g11 g12
  have g14 := ma g10 g13
  ma g7 g14
theorem h523 : InRow x0 x2 (q := 128) (n523 x0 x2) :=
  have g1 := mi h363 h390
  have g2 := mi h378 h395
  have g3 := ma g1 g2
  have g4 := mi h376 h397
  have g5 := mi h380 h393
  have g6 := ma g4 g5
  have g7 := mi g3 g6
  have g8 := mi h375 h398
  have g9 := mi h379 h394
  have g10 := ma g8 g9
  have g11 := mi h377 h396
  have g12 := mi h372 h381
  have g13 := ma g11 g12
  have g14 := mi g10 g13
  mi g7 g14
theorem h551 : InRow x0 x2 (q := 128) (n551 x0 x2) :=
  have g1 := mi h423 h462
  have g2 := mi h427 h458
  have g3 := mi g1 g2
  have g4 := mi h425 h460
  have g5 := mi h429 h456
  have g6 := mi g4 g5
  have g7 := mi g3 g6
  have g8 := mi h424 h461
  have g9 := mi h428 h457
  have g10 := mi g8 g9
  have g11 := mi h426 h459
  have g12 := mi h430 h455
  have g13 := mi g11 g12
  have g14 := mi g10 g13
  mi g7 g14
theorem h552 : InRow x0 x2 (q := 128) (n552 x0 x2) :=
  have g1 := mi h423 h462
  have g2 := mi h427 h458
  have g3 := mi g1 g2
  have g4 := mi h425 h460
  have g5 := mi h429 h456
  have g6 := mi g4 g5
  have g7 := mi g3 g6
  have g8 := mi h424 h461
  have g9 := mi h428 h457
  have g10 := mi g8 g9
  have g11 := mi h426 h459
  have g12 := mi h430 h455
  have g13 := mi g11 g12
  have g14 := mi g10 g13
  ma g7 g14
theorem h553 : InRow x0 x2 (q := 128) (n553 x0 x2) :=
  have g1 := mi h423 h462
  have g2 := mi h427 h458
  have g3 := mi g1 g2
  have g4 := mi h425 h460
  have g5 := mi h429 h456
  have g6 := mi g4 g5
  have g7 := ma g3 g6
  have g8 := mi h424 h461
  have g9 := mi h428 h457
  have g10 := mi g8 g9
  have g11 := mi h426 h459
  have g12 := mi h430 h455
  have g13 := mi g11 g12
  have g14 := ma g10 g13
  mi g7 g14
theorem h554 : InRow x0 x2 (q := 128) (n554 x0 x2) :=
  have g1 := mi h423 h462
  have g2 := mi h427 h458
  have g3 := mi g1 g2
  have g4 := mi h425 h460
  have g5 := mi h429 h456
  have g6 := mi g4 g5
  have g7 := ma g3 g6
  have g8 := mi h424 h461
  have g9 := mi h428 h457
  have g10 := mi g8 g9
  have g11 := mi h426 h459
  have g12 := mi h430 h455
  have g13 := mi g11 g12
  have g14 := ma g10 g13
  ma g7 g14
theorem h555 : InRow x0 x2 (q := 128) (n555 x0 x2) :=
  have g1 := mi h423 h462
  have g2 := mi h427 h458
  have g3 := ma g1 g2
  have g4 := mi h425 h460
  have g5 := mi h429 h456
  have g6 := ma g4 g5
  have g7 := mi g3 g6
  have g8 := mi h424 h461
  have g9 := mi h428 h457
  have g10 := ma g8 g9
  have g11 := mi h426 h459
  have g12 := mi h430 h455
  have g13 := ma g11 g12
  have g14 := mi g10 g13
  mi g7 g14
theorem h556 : InRow x0 x2 (q := 128) (n556 x0 x2) :=
  have g1 := mi h423 h462
  have g2 := mi h427 h458
  have g3 := ma g1 g2
  have g4 := mi h425 h460
  have g5 := mi h429 h456
  have g6 := ma g4 g5
  have g7 := mi g3 g6
  have g8 := mi h424 h461
  have g9 := mi h428 h457
  have g10 := ma g8 g9
  have g11 := mi h426 h459
  have g12 := mi h430 h455
  have g13 := ma g11 g12
  have g14 := mi g10 g13
  ma g7 g14
theorem h557 : InRow x0 x2 (q := 128) (n557 x0 x2) :=
  have g1 := mi h423 h462
  have g2 := mi h427 h458
  have g3 := ma g1 g2
  have g4 := mi h425 h460
  have g5 := mi h429 h456
  have g6 := ma g4 g5
  have g7 := ma g3 g6
  have g8 := mi h424 h461
  have g9 := mi h428 h457
  have g10 := ma g8 g9
  have g11 := mi h426 h459
  have g12 := mi h430 h455
  have g13 := ma g11 g12
  have g14 := ma g10 g13
  mi g7 g14
theorem h558 : InRow x0 x2 (q := 128) (n558 x0 x2) :=
  have g1 := mi h423 h462
  have g2 := mi h427 h458
  have g3 := ma g1 g2
  have g4 := mi h425 h460
  have g5 := mi h429 h456
  have g6 := ma g4 g5
  have g7 := ma g3 g6
  have g8 := mi h424 h461
  have g9 := mi h428 h457
  have g10 := ma g8 g9
  have g11 := mi h426 h459
  have g12 := mi h430 h455
  have g13 := ma g11 g12
  have g14 := ma g10 g13
  ma g7 g14
theorem h575 : InRow x0 x2 (q := 128) (n575 x0 x2) :=
  have g1 := ma h516 h518
  have g2 := mi h487 g1
  have g3 := mi h491 h522
  have g4 := mi g2 g3
  have g5 := ma h515 h517
  have g6 := mi h489 g5
  have g7 := mi h493 h520
  have g8 := mi g6 g7
  mi g4 g8
theorem h576 : InRow x0 x2 (q := 128) (n576 x0 x2) :=
  have g1 := ma h516 h518
  have g2 := mi h487 g1
  have g3 := mi h491 h522
  have g4 := mi g2 g3
  have g5 := ma h515 h517
  have g6 := mi h489 g5
  have g7 := mi h493 h520
  have g8 := mi g6 g7
  ma g4 g8
theorem h577 : InRow x0 x2 (q := 128) (n577 x0 x2) :=
  have g1 := mi h516 h518
  have g2 := mi h488 g1
  have g3 := mi h492 h521
  have g4 := mi g2 g3
  have g5 := mi h490 h523
  have g6 := mi h494 h519
  have g7 := mi g5 g6
  mi g4 g7
theorem h578 : InRow x0 x2 (q := 128) (n578 x0 x2) :=
  have g1 := mi h516 h518
  have g2 := mi h488 g1
  have g3 := mi h492 h521
  have g4 := mi g2 g3
  have g5 := mi h490 h523
  have g6 := mi h494 h519
  have g7 := mi g5 g6
  ma g4 g7
theorem h579 : InRow x0 x2 (q := 128) (n579 x0 x2) :=
  have g1 := ma h516 h518
  have g2 := mi h487 g1
  have g3 := mi h491 h522
  have g4 := ma g2 g3
  have g5 := ma h515 h517
  have g6 := mi h489 g5
  have g7 := mi h493 h520
  have g8 := ma g6 g7
  mi g4 g8
theorem h580 : InRow x0 x2 (q := 128) (n580 x0 x2) :=
  have g1 := ma h516 h518
  have g2 := mi h487 g1
  have g3 := mi h491 h522
  have g4 := ma g2 g3
  have g5 := ma h515 h517
  have g6 := mi h489 g5
  have g7 := mi h493 h520
  have g8 := ma g6 g7
  ma g4 g8
theorem h581 : InRow x0 x2 (q := 128) (n581 x0 x2) :=
  have g1 := mi h516 h518
  have g2 := mi h488 g1
  have g3 := mi h492 h521
  have g4 := ma g2 g3
  have g5 := mi h490 h523
  have g6 := mi h494 h519
  have g7 := ma g5 g6
  mi g4 g7
theorem h582 : InRow x0 x2 (q := 128) (n582 x0 x2) :=
  have g1 := mi h516 h518
  have g2 := mi h488 g1
  have g3 := mi h492 h521
  have g4 := ma g2 g3
  have g5 := mi h490 h523
  have g6 := mi h494 h519
  have g7 := ma g5 g6
  ma g4 g7
theorem h583 : InRow x0 x2 (q := 128) (n583 x0 x2) :=
  have g1 := ma h516 h518
  have g2 := mi h487 g1
  have g3 := mi h491 h522
  have g4 := mi g2 g3
  have g5 := ma h515 h517
  have g6 := mi h489 g5
  have g7 := mi h493 h520
  have g8 := mi g6 g7
  have g9 := mi g4 g8
  have g10 := mi h516 h518
  have g11 := mi h488 g10
  have g12 := mi h492 h521
  have g13 := mi g11 g12
  have g14 := mi h490 h523
  have g15 := mi h494 h519
  have g16 := mi g14 g15
  have g17 := mi g13 g16
  mi g9 g17
theorem cand_in : ∃ v, InRow x0 x2 (q := 1024) v ∧ n635 x0 x2 = rmv (rmv v) ∧ n638 x0 x2 = lo (n635 x0 x2) :=
  have g1 := ma h575 h577
  have g2 := mi h576 h578
  have g3 := ma h576 h578
  have g4 := mi h579 h581
  have g5 := ma h579 h581
  have g6 := mi h580 h582
  have g7 := ma h580 h582
  have g8 := mi h551 g7
  have g9 := mi h552 g6
  have g10 := mi h553 g5
  have g11 := mi h554 g4
  have g12 := mi h555 g3
  have g13 := mi h556 g2
  have g14 := mi h557 g1
  have g15 := mi h558 h583
  have g16 := mi g8 g12
  have g17 := ma g8 g12
  have g18 := mi g9 g13
  have g19 := ma g9 g13
  have g20 := mi g10 g14
  have g21 := ma g10 g14
  have g22 := mi g11 g15
  have g23 := ma g11 g15
  have g24 := mi g16 g20
  have g25 := ma g16 g20
  have g26 := mi g18 g22
  have g27 := ma g18 g22
  have g28 := mi g17 g21
  have g29 := ma g17 g21
  have g30 := mi g19 g23
  have g31 := ma g19 g23
  have g32 := mi g24 g26
  have g33 := ma g24 g26
  have g34 := mi g25 g27
  have g35 := ma g25 g27
  have g36 := mi g28 g30
  have g37 := ma g28 g30
  have g38 := mi g29 g31
  have g39 := ma g29 g31
  ⟨_, cc g32 g33 g34 g35 g36 g37 g38 g39, rfl, rfl⟩

end Cert.KernelIdeal.Hand

end
-- ==== Proof.V.Sel.lean ====
/- The `m` first positions of a row, in order of the value and then of the position; four ways of finding them. -/
module

public import Idealize.ShloMosaic.PureOps.Ideal
public import Idealize.ShloMosaic.Lib.SortFacts
public import Idealize.ShloMosaic.Lib.SortPrefix

@[expose] public section

noncomputable section

namespace Cert.Spec

open scoped Classical
open Idealize.ShloMosaic

variable {n : ℕ}

/-- Position `j` comes before position `k`: a lesser value, or an equal one further left. -/
def Bef (w : Fin n → EReal) (j k : Fin n) : Prop := w j < w k ∨ (w j = w k ∧ j < k)

theorem bef_irrefl (w : Fin n → EReal) (k : Fin n) : ¬ Bef w k k := by
  rintro (h | ⟨-, h⟩) <;> exact lt_irrefl _ h

theorem bef_total (w : Fin n → EReal) {j k : Fin n} (h : j ≠ k) : Bef w j k ∨ Bef w k j := by
  rcases lt_trichotomy (w j) (w k) with h1 | h1 | h1
  · exact .inl (.inl h1)
  · rcases lt_or_gt_of_ne h with h2 | h2
    · exact .inl (.inr ⟨h1, h2⟩)
    · exact .inr (.inr ⟨h1.symm, h2⟩)
  · exact .inr (.inl h1)

theorem bef_le {w : Fin n → EReal} {j k : Fin n} (h : Bef w j k) : w j ≤ w k := by
  rcases h with h | ⟨h, -⟩
  · exact h.le
  · exact h.le

theorem bef_asymm {w : Fin n → EReal} {j k : Fin n} (h : Bef w j k) : ¬ Bef w k j := by
  rcases h with h | ⟨h, h'⟩
  · rintro (g | ⟨g, -⟩)
    · exact lt_asymm h g
    · exact absurd g (ne_of_gt h)
  · rintro (g | ⟨-, g⟩)
    · exact absurd h (ne_of_gt g)
    · exact lt_asymm h' g

/-- The first `m` positions. -/
def Sel (m : ℕ) (w : Fin n → EReal) : Finset (Fin n) :=
  Finset.univ.filter fun k => (Finset.univ.filter fun j => Bef w j k).card < m

/-- A set of `m` positions that holds, with each, all that come before it is the first `m`. -/
theorem eq_sel {m : ℕ} {w : Fin n → EReal} (S : Finset (Fin n)) (hc : S.card = m)
    (hd : ∀ k ∈ S, ∀ j, Bef w j k → j ∈ S) : S = Sel m w := by
  ext k
  simp only [Sel, Finset.mem_filter, Finset.mem_univ, true_and]
  constructor
  · intro hk
    rw [← hc]
    refine Finset.card_lt_card ⟨fun j hj => hd k hk j (by simpa using hj), fun h => ?_⟩
    have := h hk
    simp only [Finset.mem_filter, Finset.mem_univ, true_and] at this
    exact bef_irrefl w k this
  · intro hlt
    by_contra hk
    refine absurd hlt (not_lt.2 ?_)
    rw [← hc]
    refine Finset.card_le_card fun s hs => ?_
    simp only [Finset.mem_filter, Finset.mem_univ, true_and]
    rcases bef_total w (j := s) (k := k) (fun h => hk (h ▸ hs)) with h | h
    · exact h
    · exact absurd (hd s hs k h) hk

/-- A threshold that `m` values do not exceed selects the first `m`. -/
theorem thresh_sel {m : ℕ} {w : Fin n → EReal} {t : EReal}
    (hc : (Finset.univ.filter fun j => w j ≤ t).card = m) : (Finset.univ.filter fun j => w j ≤ t) = Sel m w :=
  eq_sel _ hc fun k hk j hj => by
    simp only [Finset.mem_filter, Finset.mem_univ, true_and] at hk ⊢
    exact (bef_le hj).trans hk

/-! ## Rounds of "the first least value, overwritten with `⊤`" -/

/-- `v` is the row `w` with the first `r` positions overwritten. -/
def Gone (w : Fin n → EReal) (r : ℕ) (v : Fin n → EReal) : Prop :=
  ∃ S : Finset (Fin n), S.card = r ∧ (∀ k ∈ S, ∀ j, Bef w j k → j ∈ S) ∧ ∀ k, v k = if k ∈ S then ⊤ else w k

theorem gone_zero (w : Fin n → EReal) : Gone w 0 w := ⟨∅, rfl, by simp, by simp⟩

/-- One round. -/
theorem gone_succ {w : Fin n → EReal} (hw : ∀ k, w k ≠ ⊤) {r : ℕ} (hr : r < n) {v : Fin n → EReal} (hv : Gone w r v)
    {a : Fin n} (ha : ∀ j, ¬ Bef v j a) {v' : Fin n → EReal} (hv' : ∀ k, v' k = if k = a then ⊤ else v k) : Gone w (r + 1) v' := by
  obtain ⟨S, hc, hd, hS⟩ := hv
  have haS : a ∉ S := fun h => by
    obtain ⟨j, hj⟩ : ∃ j, j ∉ S := by
      by_contra hall
      have : S = Finset.univ := Finset.eq_univ_iff_forall.2 fun j => by
        by_contra hj
        exact hall ⟨j, hj⟩
      rw [this, Finset.card_univ, Fintype.card_fin] at hc
      omega
    refine ha j (.inl ?_)
    rw [hS j, hS a, if_neg hj, if_pos h]
    exact lt_top_iff_ne_top.2 (hw j)
  refine ⟨insert a S, by rw [Finset.card_insert_of_notMem haS, hc], ?_, fun k => ?_⟩
  · intro k hk j hj
    rw [Finset.mem_insert] at hk ⊢
    rcases hk with rfl | hk
    · by_contra hn
      rw [not_or] at hn
      refine ha j ?_
      unfold Bef
      rw [hS j, hS k, if_neg hn.2, if_neg haS]
      exact hj
    · exact .inr (hd k hk j hj)
  · rw [hv' k, hS k]
    by_cases h : k = a
    · simp [h]
    · simp [h, Finset.mem_insert]

/-- After `m` rounds the overwritten positions are the first `m`. -/
theorem gone_sel {w : Fin n → EReal} (hw : ∀ k, w k ≠ ⊤) {m : ℕ} {v : Fin n → EReal} (hv : Gone w m v) (k : Fin n) :
    v k = ⊤ ↔ k ∈ Sel m w := by
  obtain ⟨S, hc, hd, hS⟩ := hv
  rw [← eq_sel S hc hd, hS k]
  by_cases h : k ∈ S
  · simp [h]
  · simp [h, hw k]

/-! ## Rounds of "every least value, overwritten with `⊤`", over values found in the row -/

/-- Each of `c` is `⊤`, or a value of the row that at least `r` values of the row are below. -/
def Above {q : ℕ} (w : Fin n → EReal) (r : ℕ) (c : Fin q → EReal) : Prop :=
  ∀ j, c j = ⊤ ∨ ((∃ k, w k = c j) ∧ r ≤ (Finset.univ.filter fun k => w k < c j).card)

theorem above_zero {q : ℕ} {w : Fin n → EReal} {c : Fin q → EReal} (h : ∀ j, ∃ k, w k = c j) : Above w 0 c :=
  fun j => .inr ⟨h j, Nat.zero_le _⟩

theorem card_step {w : Fin n → EReal} {a b : EReal} (hab : a < b) (hk : ∃ k, w k = a) {r : ℕ}
    (hr : r ≤ (Finset.univ.filter fun k => w k < a).card) : r + 1 ≤ (Finset.univ.filter fun k => w k < b).card := by
  obtain ⟨k, hk⟩ := hk
  refine Nat.succ_le_of_lt (hr.trans_lt (Finset.card_lt_card ⟨fun j hj => ?_, fun h => ?_⟩))
  · simp only [Finset.mem_filter, Finset.mem_univ, true_and] at hj ⊢
    exact hj.trans hab
  · have := h (show k ∈ Finset.univ.filter fun k => w k < b by simpa [hk] using hab)
    simp [hk] at this

/-- One round: `μ` the least of `c`. -/
theorem above_succ {q : ℕ} {w : Fin n → EReal} {r : ℕ} {c c' : Fin q → EReal} (h : Above w r c) {μ : EReal}
    (hμ : ∀ j, μ ≤ c j) (hm : μ = ⊤ ∨ ∃ j, c j = μ) (hc' : ∀ j, c' j = if c j = μ then ⊤ else c j) : Above w (r + 1) c' := by
  intro j
  rw [hc' j]
  by_cases e : c j = μ
  · simp [e]
  rw [if_neg e]
  rcases h j with ht | ⟨hv, hr⟩
  · exact .inl ht
  have hlt : μ < c j := lt_of_le_of_ne (hμ j) (Ne.symm e)
  refine .inr ⟨hv, ?_⟩
  rcases hm with rfl | ⟨i, hi⟩
  · exact absurd hlt not_top_lt
  rcases h i with ht | ⟨hvi, hri⟩
  · rw [hi] at ht; rw [ht] at hlt; exact absurd hlt not_top_lt
  rw [hi] at hvi hri
  exact card_step hlt hvi hri

/-- The least after `r` rounds has at least `r + 1` values of the row at or below it. -/
theorem above_card {q : ℕ} {w : Fin n → EReal} {r : ℕ} (hn : r < n) {c : Fin q → EReal} (h : Above w r c) {μ : EReal}
    (hm : μ = ⊤ ∨ ∃ j, c j = μ) : r + 1 ≤ (Finset.univ.filter fun k => w k ≤ μ).card := by
  have top : μ = ⊤ → r + 1 ≤ (Finset.univ.filter fun k => w k ≤ μ).card := fun e => by
    simp only [e, le_top, Finset.filter_true, Finset.card_univ, Fintype.card_fin]; omega
  rcases hm with e | ⟨i, hi⟩
  · exact top e
  rcases h i with ht | ⟨⟨k, hk⟩, hri⟩
  · exact top (hi.symm.trans ht)
  rw [hi] at hk hri
  refine Nat.succ_le_of_lt (hri.trans_lt (Finset.card_lt_card ⟨fun j hj => ?_, fun h => ?_⟩))
  · simp only [Finset.mem_filter, Finset.mem_univ, true_and] at hj ⊢
    exact hj.le
  · have := h (show k ∈ Finset.univ.filter fun k => w k ≤ μ by simp [hk])
    simp [hk] at this

/-! ## The stable sort's first positions -/

theorem insertBefore_congr {ι : Type} {B B' : ι → ι → Bool} (a : ι) (l : List ι) (h : ∀ b ∈ l, B b a = B' b a) :
    insertBefore B a l = insertBefore B' a l := by
  induction l with
  | nil => rfl
  | cons b l ih =>
    unfold insertBefore
    rw [h b (by simp), ih fun c hc => h c (by simp [hc])]

theorem stableSort_congr {B B' : Fin n → Fin n → Bool} (h : ∀ a b, a < b → B b a = B' b a) (l : List (Fin n))
    (hl : l.Pairwise (· < ·)) : stableSort B l = stableSort B' l := by
  induction l with
  | nil => rfl
  | cons a l ih =>
    rw [List.pairwise_cons] at hl
    unfold stableSort
    rw [ih hl.2]
    refine insertBefore_congr a _ fun b hb => h a b (hl.1 b ((perm_stableSort B' l).mem_iff.1 hb))

theorem sortedFrom_congr' {B B' : Fin n → Fin n → Bool} (h : ∀ a b, a < b → B b a = B' b a) (r : Fin n) :
    sortedFrom B r = sortedFrom B' r := by
  have e : sortPositions n B = sortPositions n B' := stableSort_congr h _ (List.pairwise_lt_finRange n)
  unfold sortedFrom
  rw [List.get_of_eq e]
  rfl

/-- The first `m` places of the stable sort by "a lesser value goes first" hold the first `m` positions. -/
theorem sorted_sel {m : ℕ} (hm : m ≤ n) (w : Fin n → EReal) {B : Fin n → Fin n → Bool} (hB : ∀ j k, B j k = true ↔ w j < w k)
    (k : Fin n) : (∃ r : Fin m, sortedFrom B (r.castLE hm) = k) ↔ k ∈ Sel m w := by
  have hB' : ∀ a b, a < b → B b a = decide (Bef w b a) := fun a b hab => by
    rw [Bool.eq_iff_iff, hB, decide_eq_true_eq]
    exact ⟨fun h => .inl h, fun h => h.resolve_right fun g => lt_asymm hab g.2⟩
  set R : Fin n → Fin n → Bool := fun a b => decide (Bef w a b) with hR
  have e : ∀ r, sortedFrom B r = sortedFrom R r := fun r => sortedFrom_congr' hB' r
  simp only [e]
  have hno : ∀ i j : Fin n, i < j → ¬ Bef w (sortedFrom R j) (sortedFrom R i) := fun i j hij => by
    have := sortedFrom_noInversion R R (fun a b h => by simpa [hR] using bef_asymm (by simpa [hR] using h)) (fun _ _ h => h)
      (fun a b c hab hbc => by
        simp only [hR, decide_eq_false_iff_not] at hab hbc ⊢
        intro hac
        by_cases e1 : a = b
        · exact hbc (e1 ▸ hac)
        by_cases e2 : b = c
        · exact hab (e2 ▸ hac)
        have h1 : Bef w b a := (bef_total w e1).resolve_left hab
        have h2 : Bef w c b := (bef_total w e2).resolve_left hbc
        refine bef_asymm hac ?_
        rcases h1 with h1 | ⟨h1, h1'⟩ <;> rcases h2 with h2 | ⟨h2, h2'⟩
        · exact .inl (h2.trans h1)
        · exact .inl (h2 ▸ h1)
        · exact .inl (h1 ▸ h2)
        · exact .inr ⟨h2.trans h1, h2'.trans h1'⟩) i j hij
    simpa [hR] using this
  have hS := eq_sel (m := m) (w := w) (Finset.univ.image fun r : Fin m => sortedFrom R (r.castLE hm))
    (by
      have := Finset.card_image_of_injective (Finset.univ : Finset (Fin m)) ((sortedFrom_injective R).comp (Fin.castLE_injective hm))
      rw [Finset.card_univ, Fintype.card_fin] at this
      exact this)
    (fun k hk j hj => by
      simp only [Finset.mem_image, Finset.mem_univ, true_and] at hk ⊢
      obtain ⟨r, rfl⟩ := hk
      obtain ⟨s, rfl⟩ := sortedFrom_surjective R j
      have hs : s < r.castLE hm := by
        rcases lt_trichotomy s (r.castLE hm) with h | h | h
        · exact h
        · rw [h] at hj; exact absurd hj (bef_irrefl w _)
        · exact absurd hj (hno _ _ h)
      exact ⟨⟨s.val, lt_trans hs r.isLt⟩, rfl⟩)
  rw [← hS]
  simp

end Cert.Spec

end
-- ==== Proof.V.Row.lean ====
/- What one row of the input gives, as extended reals: the softmax weights, the distances, the sparse code, the quantized
   row and its squared error. -/
module

public import proofs.«01_k».proof.Proof.V.Sel
public import Idealize.ShloMosaic.Lib.Pointwise

@[expose] public section

noncomputable section

namespace Cert.Spec

open scoped Classical
open Idealize.ShloMosaic

/-! ## Finite extended reals -/

/-- A real number. -/
def Fin' (x : EReal) : Prop := ∃ r : ℝ, x = (r : EReal)

theorem fin_coe (r : ℝ) : Fin' (r : EReal) := ⟨r, rfl⟩
theorem fin_zero : Fin' 0 := ⟨0, rfl⟩
theorem fin_one : Fin' 1 := ⟨1, rfl⟩
theorem fin_add {x y : EReal} : Fin' x → Fin' y → Fin' (x + y) := by
  rintro ⟨a, rfl⟩ ⟨b, rfl⟩; exact ⟨a + b, (EReal.coe_add a b).symm⟩
theorem fin_sub {x y : EReal} : Fin' x → Fin' y → Fin' (x - y) := by
  rintro ⟨a, rfl⟩ ⟨b, rfl⟩; exact ⟨a - b, (EReal.coe_sub a b).symm⟩
theorem fin_mul {x y : EReal} : Fin' x → Fin' y → Fin' (x * y) := by
  rintro ⟨a, rfl⟩ ⟨b, rfl⟩; exact ⟨a * b, (EReal.coe_mul a b).symm⟩
theorem fin_sum {ι : Type} (s : Finset ι) {f : ι → EReal} (h : ∀ i, Fin' (f i)) : Fin' (∑ i ∈ s, f i) := by
  classical
  induction s using Finset.induction_on with
  | empty => simpa using fin_zero
  | insert a s ha ih => rw [Finset.sum_insert ha]; exact fin_add (h a) ih
theorem fin_exp {x : EReal} : Fin' x → Fin' (Ideal.exp x) := by
  rintro ⟨a, rfl⟩; exact ⟨Real.exp a, rfl⟩
theorem fin_ne_top {x : EReal} : Fin' x → x ≠ ⊤ := by rintro ⟨a, rfl⟩; exact EReal.coe_ne_top a
theorem fin_ne_bot {x : EReal} : Fin' x → x ≠ ⊥ := by rintro ⟨a, rfl⟩; exact EReal.coe_ne_bot a
theorem fin_of {x : EReal} (h : x ≠ ⊤) (h' : x ≠ ⊥) : Fin' x := ⟨x.toReal, (EReal.coe_toReal h h').symm⟩
theorem fin_inv {x : EReal} : Fin' x → Fin' x⁻¹ := by
  rintro ⟨a, rfl⟩; exact ⟨a⁻¹, (EReal.coe_inv a).symm⟩
theorem fin_ite {p : Prop} [Decidable p] {x y : EReal} (hx : Fin' x) (hy : Fin' y) : Fin' (if p then x else y) := by
  split_ifs <;> assumption
theorem fin_two : Fin' 2 := ⟨2, by norm_cast⟩

theorem add_sub_self {s a b : EReal} (ha : Fin' a) : (s + a) + (b - a) = s + b := by
  obtain ⟨a, rfl⟩ := ha
  rw [add_assoc]
  congr 1
  induction b using EReal.rec with
  | bot => rfl
  | top => rfl
  | coe b => rw [← EReal.coe_sub, ← EReal.coe_add]; congr 1; ring

/-! ## One row -/

variable (x : Fin 64 → EReal) (W : Fin 64 → Fin 8192 → EReal) (b : Fin 8192 → EReal) (D : Fin 64 → Fin 8192 → EReal)

/-- The logits. -/
def lgt (k : Fin 8192) : EReal := (∑ d, x d * W d k) + b k
/-- The largest logit. -/
def mxl : EReal := Finset.univ.fold max ⊥ (lgt x W b)
/-- The exponentials. -/
def ex (k : Fin 8192) : EReal := Ideal.exp (lgt x W b k - mxl x W b)
/-- The softmax denominator. -/
def den : EReal := ∑ k, ex x W b k
/-- The squared distances, as both programs form them. -/
def dst (k : Fin 8192) : EReal := ((∑ d, x d * x d) + ∑ d, D d k * D d k) - 2 * ∑ d, x d * D d k
/-- One on the eight nearest entries, zero elsewhere. -/
def ind (k : Fin 8192) : EReal := if k ∈ Sel 8 (dst x D) then 1 else 0
/-- The sparse code. -/
def rep (k : Fin 8192) : EReal := ind x D k * (ex x W b k * Ideal.div 1 (8 * den x W b))
/-- The reconstruction less the row. -/
def dif (d : Fin 64) : EReal := (∑ k, rep x W b D k * D d k) - x d
/-- The quantized row. -/
def zq (d : Fin 64) : EReal := x d + dif x W b D d
/-- The row's squared error. -/
def sq : EReal := ∑ d, dif x W b D d * dif x W b D d

section
variable {x W b D} (hx : ∀ d, Fin' (x d)) (hW : ∀ d k, Fin' (W d k)) (hb : ∀ k, Fin' (b k)) (hD : ∀ d k, Fin' (D d k))
include hx

include hD in
theorem fin_dst (k : Fin 8192) : Fin' (dst x D k) :=
  fin_sub (fin_add (fin_sum _ fun d => fin_mul (hx d) (hx d)) (fin_sum _ fun d => fin_mul (hD d k) (hD d k)))
    (fin_mul fin_two (fin_sum _ fun d => fin_mul (hx d) (hD d k)))

include hW hb

theorem fin_lgt (k : Fin 8192) : Fin' (lgt x W b k) := fin_add (fin_sum _ fun d => fin_mul (hx d) (hW d k)) (hb k)

theorem mxl_mem : ∃ k, mxl x W b = lgt x W b k := by
  have h : mxl x W b ≤ mxl x W b := le_rfl
  have h' := (Finset.le_fold_max (s := Finset.univ) (f := lgt x W b) (b := ⊥) (mxl x W b)).1 h
  rcases h' with h' | ⟨k, -, hk⟩
  · have h0 : lgt x W b 0 ≤ mxl x W b := (Finset.le_fold_max _).2 (.inr ⟨0, Finset.mem_univ _, le_rfl⟩)
    exact absurd (le_antisymm (h0.trans h') bot_le) (fin_ne_bot (fin_lgt hx hW hb 0))
  · exact ⟨k, le_antisymm hk ((Finset.le_fold_max _).2 (.inr ⟨k, Finset.mem_univ _, le_rfl⟩))⟩

theorem fin_ex (k : Fin 8192) : Fin' (ex x W b k) := by
  obtain ⟨i, hi⟩ := mxl_mem hx hW hb
  unfold ex
  rw [hi]
  exact fin_exp (fin_sub (fin_lgt hx hW hb k) (fin_lgt hx hW hb i))

theorem ex_nonneg (k : Fin 8192) : 0 ≤ ex x W b k := by
  obtain ⟨i, hi⟩ := mxl_mem hx hW hb
  unfold ex
  rw [hi]
  obtain ⟨u, hu⟩ := fin_sub (fin_lgt hx hW hb k) (fin_lgt hx hW hb i)
  rw [hu, Ideal.exp_coe]
  exact_mod_cast (Real.exp_pos u).le

theorem fin_den : Fin' (den x W b) := fin_sum _ (fin_ex hx hW hb)

theorem den_pos : 0 < den x W b := by
  obtain ⟨i, hi⟩ := mxl_mem hx hW hb
  have h1 : ex x W b i = 1 := by
    unfold ex
    rw [hi]
    obtain ⟨u, hu⟩ := fin_lgt hx hW hb i
    rw [hu, ← EReal.coe_sub, sub_self, Ideal.exp_coe, Real.exp_zero]
    rfl
  refine lt_of_lt_of_le zero_lt_one (h1.symm.le.trans ?_)
  exact Finset.single_le_sum (f := ex x W b) (fun k _ => ex_nonneg hx hW hb k) (Finset.mem_univ i)

theorem eight_den_ne : (8 : EReal) * den x W b ≠ 0 := by
  obtain ⟨u, hu⟩ := fin_den hx hW hb
  have h := den_pos hx hW hb
  rw [hu] at h ⊢
  have h' : (0 : ℝ) < u := by exact_mod_cast h
  have e : (8 : EReal) * (u : EReal) = ((8 * u : ℝ) : EReal) := by
    rw [EReal.coe_mul]; rfl
  rw [e]
  intro h0
  have : (8 * u : ℝ) = 0 := by exact_mod_cast h0
  linarith

/-- One over eight times the denominator. -/
theorem scale_eq : Ideal.div 1 (8 * den x W b) = (8 : EReal)⁻¹ * (den x W b)⁻¹ := by
  unfold Ideal.div
  rw [if_neg (eight_den_ne hx hW hb), one_mul, EReal.mul_inv]

theorem fin_scale : Fin' (Ideal.div 1 (8 * den x W b)) := by
  rw [scale_eq hx hW hb]
  exact fin_mul (fin_inv ⟨8, rfl⟩) (fin_inv (fin_den hx hW hb))

/-- The sparse code as the reference forms it. -/
theorem rep_eq (k : Fin 8192) : rep x W b D k = Ideal.div (ind x D k * Ideal.div (ex x W b k) (den x W b)) 8 := by
  unfold rep
  rw [scale_eq hx hW hb]
  unfold Ideal.div
  rw [if_neg (ne_of_gt (den_pos hx hW hb)), if_neg (by norm_num)]
  rw [mul_comm (8 : EReal)⁻¹, ← mul_assoc, ← mul_assoc, ← mul_assoc]

end

end Cert.Spec

end
-- ==== Proof.V.Consts.lean ====
/- The constants of both programs as extended reals, and least elements as folds. -/
module

public import Idealize.ShloMosaic.Lib.Pointwise
public import Idealize.ShloMosaic.Lib.IdealHost

@[expose] public section

noncomputable section

namespace Cert.Spec

open Idealize.ShloMosaic

theorem c_top : Ideal.ofBits .f32 0x7F800000#32 = ⊤ := by simp [Ideal.ofBits, Ideal.ieee]
theorem c_bot : Ideal.ofBits .f32 0xFF800000#32 = ⊥ := by simp [Ideal.ofBits, Ideal.ieee]
theorem c_two : Ideal.ofBits .f32 0x40000000#32 = 2 := by
  rw [show (2 : EReal) = ((2 : ℝ) : EReal) by norm_cast]
  simp [Ideal.ofBits, Ideal.ieee, -EReal.coe_mul]; norm_num
theorem c_eight : Ideal.ofBits .f32 0x41000000#32 = 8 := by
  rw [show (8 : EReal) = ((8 : ℝ) : EReal) by norm_cast]
  simp [Ideal.ofBits, Ideal.ieee, -EReal.coe_mul]; norm_num
theorem c_2048 : Ideal.ofBits .f32 0x45000000#32 = ((2048 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_loss : Ideal.ofBits .f32 0x35000000#32 = ((1 / 2097152 : ℝ) : EReal) := by
  simp [Ideal.ofBits, Ideal.ieee, -EReal.coe_mul]; norm_num
theorem c_avg : Ideal.ofBits .f32 0x39000000#32 = ((1 / 8192 : ℝ) : EReal) := by
  simp [Ideal.ofBits, Ideal.ieee, -EReal.coe_mul]; norm_num
theorem c_8192 : Ideal.ofBits .f32 0x46000000#32 = ((8192 : ℝ) : EReal) := by
  simp [Ideal.ofBits, Ideal.ieee, -EReal.coe_mul]; norm_num
theorem c_quarter : Ideal.ofBits .f32 0x3E800000#32 = ((1 / 4 : ℝ) : EReal) := by
  simp [Ideal.ofBits, Ideal.ieee, -EReal.coe_mul]; norm_num
theorem c_numel : Ideal.ofBits .f32 0x49000000#32 = ((524288 : ℝ) : EReal) := by
  simp [Ideal.ofBits, Ideal.ieee, -EReal.coe_mul]; norm_num

theorem fold_min_le_all {n : ℕ} (c : Fin n → EReal) (j : Fin n) : Finset.univ.fold min ⊤ c ≤ c j :=
  (Finset.fold_min_le _).2 (.inr ⟨j, Finset.mem_univ _, le_rfl⟩)

theorem fold_min_mem {n : ℕ} (c : Fin n → EReal) : Finset.univ.fold min ⊤ c = ⊤ ∨ ∃ j, c j = Finset.univ.fold min ⊤ c := by
  rcases (Finset.fold_min_le (s := Finset.univ) (f := c) (b := ⊤) (Finset.univ.fold min ⊤ c)).1 le_rfl with h | ⟨j, -, h⟩
  · exact .inl (top_le_iff.1 h)
  · exact .inr ⟨j, le_antisymm h (fold_min_le_all c j)⟩

theorem minsi_toInt (a b : BitVec 32) : (IntOp.minsi a b).toInt = min a.toInt b.toInt := by
  unfold IntOp.minsi
  split_ifs with h
  · rw [BitVec.slt_iff_toInt_lt] at h
    exact (min_eq_left h.le).symm
  · rw [BitVec.slt_iff_toInt_lt, not_lt] at h
    exact (min_eq_right h).symm

theorem toInt_col (k : ℕ) (h : k < 8193) : (BitVec.ofNat 32 k).toInt = k := by
  rw [BitVec.toInt_ofNat']
  simp only [Int.bmod]
  omega

/-- The signed minimum, over the columns, of "the column number where the condition holds, else 8192", is the first
    column where it holds. -/
theorem first_col {p : Fin 8192 → Prop} [DecidablePred p] (h : ∃ k, p k) :
    ∃ a : Fin 8192, p a ∧ (∀ k, p k → a ≤ k) ∧
      Finset.univ.fold IntOp.minsi 2147483647#32 (fun k : Fin 8192 => if p k then BitVec.ofNat 32 k.val else 8192#32)
        = BitVec.ofNat 32 a.val := by
  obtain ⟨k0, hk0⟩ := h
  have hne : (Finset.univ.filter p).Nonempty := ⟨k0, by simpa using hk0⟩
  refine ⟨(Finset.univ.filter p).min' hne, by simpa using Finset.min'_mem _ hne, fun k hk => Finset.min'_le _ _ (by simpa using hk), ?_⟩
  set a := (Finset.univ.filter p).min' hne with ha
  have hpa : p a := by simpa using Finset.min'_mem _ hne
  refine BitVec.eq_of_toInt_eq ?_
  rw [← Finset.fold_hom (op' := min) (m := BitVec.toInt) minsi_toInt, toInt_col a.val (by have := a.isLt; omega)]
  refine le_antisymm ?_ ?_
  · refine (Finset.fold_min_le _).2 (.inr ⟨a, Finset.mem_univ _, ?_⟩)
    rw [if_pos hpa, toInt_col a.val (by have := a.isLt; omega)]
  · refine (Finset.le_fold_min _).2 ⟨?_, fun k _ => ?_⟩
    · have := a.isLt
      have e : (2147483647#32).toInt = 2147483647 := by decide
      rw [e]; omega
    · split_ifs with hk
      · rw [toInt_col k.val (by have := k.isLt; omega)]
        have : a ≤ k := ha ▸ Finset.min'_le (Finset.univ.filter p) k (by simpa using hk)
        exact Int.ofNat_le.2 (Fin.le_def.1 this)
      · have e : (8192#32).toInt = 8192 := by decide
        rw [e]
        have := a.isLt; omega

theorem select_eq_col {α : Type} (j a : Fin 8192) (u v : α) :
    Scalar.select (IntOp.cmpi .eq (BitVec.ofNat 32 j.val) (BitVec.ofNat 32 a.val)) u v = if j = a then u else v := by
  by_cases h : j = a
  · subst h; simp [Scalar.select, IntOp.cmpi]
  · have : BitVec.ofNat 32 j.val ≠ BitVec.ofNat 32 a.val := fun e => h (by
      have := congrArg BitVec.toInt e
      rw [toInt_col j.val (by omega), toInt_col a.val (by omega)] at this
      exact Fin.ext (by exact_mod_cast this))
    rw [if_neg h]
    unfold Scalar.select IntOp.cmpi
    rw [beq_eq_false_iff_ne.2 this]
    rfl

end Cert.Spec

end
-- ==== Proof.V.Mask.lean ====
/- The mask that the body multiplies the softmax by: one on the eight nearest entries of each row, zero elsewhere. -/
module

public import proofs.«01_k».proof.Proof.V.NetVals
public import proofs.«01_k».proof.Proof.V.Row
public import proofs.«01_k».proof.Proof.V.Consts

@[expose] public section

set_option maxRecDepth 16384

noncomputable section

namespace Cert.KernelIdeal.Hand

open scoped Classical
open Idealize.ShloMosaic Cert.KernelIdeal Cert.KernelIdeal.Gen Cert.Spec

/-- One row of a block. -/
abbrev row (x0 : FVec Ideal S256x64 .f32) (r : Fin 256) : Fin 64 → EReal := fun d => x0 (ix2 r d)
/-- A weight matrix by its two coordinates. -/
abbrev mat (x2 : FVec Ideal S64x8192 .f32) : Fin 64 → Fin 8192 → EReal := fun d k => x2 (ix2 d k)
/-- The bias by its column. -/
abbrev bia (x3 : FVec Ideal S1x8192 .f32) : Fin 8192 → EReal := fun k => x3 (ix2 0 k)

variable (x0 : FVec Ideal S256x64 .f32) (x1 x2 : FVec Ideal S64x8192 .f32) (x3 : FVec Ideal S1x8192 .f32)

theorem n30_at (r : Fin 256) (k : Fin 8192) : n30 x0 x2 (ix2 r k) = dst (row x0 r) (mat x2) k := by
  pointwise [n30, k0_pay18, k0_pay14, k0_pay15]
  rw [c_two]
  rfl

theorem n30_row (r : Fin 256) : (fun k => n30 x0 x2 (ix2 r k)) = dst (row x0 r) (mat x2) := funext fun k => n30_at x0 x2 r k

/-! ## The threshold mask -/

theorem rmv_above (w : Fin 8192 → EReal) (v : FVec Ideal S256x1024 .f32) (r : Fin 256) (q : ℕ)
    (h : Above w q fun j : Fin 1024 => v (ix2 r j)) : Above w (q + 1) fun j : Fin 1024 => rmv v (ix2 r j) := by
  refine above_succ h (μ := Finset.univ.fold min ⊤ fun j : Fin 1024 => v (ix2 r j)) (fold_min_le_all _) (fold_min_mem _) fun j => ?_
  pointwise [rmv, lo]
  rw [c_top]

theorem thr_at : ∃ t : Fin 256 → EReal,
    (∀ r, 8 ≤ (Finset.univ.filter fun k => dst (row x0 r) (mat x2) k ≤ t r).card) ∧
    ∀ r k, k0_pay571 (n30 x0 x2) (n635 x0 x2) (n638 x0 x2) (ix2 r k) = if dst (row x0 r) (mat x2) k ≤ t r then (1 : EReal) else 0 := by
  obtain ⟨v, hv, e1, e2⟩ := cand_in (x0 := x0) (x2 := x2)
  rw [e2, pay571_eq, e1]
  refine ⟨fun r => Finset.univ.fold min ⊤ fun j : Fin 1024 => rmv (rmv (rmv (rmv (rmv (rmv (rmv v)))))) (ix2 r j), fun r => ?_, fun r k => ?_⟩
  · have h0 : Above (dst (row x0 r) (mat x2)) 0 fun j : Fin 1024 => v (ix2 r j) := above_zero fun j => by
      obtain ⟨k, hk⟩ := hv r j
      exact ⟨k, (n30_at x0 x2 r k).symm.trans hk⟩
    exact above_card (by norm_num) (rmv_above _ _ r _ (rmv_above _ _ r _ (rmv_above _ _ r _ (rmv_above _ _ r _
      (rmv_above _ _ r _ (rmv_above _ _ r _ (rmv_above _ _ r _ h0))))))) (fold_min_mem _)
  · pointwise [lo8]
    rw [c_top, n30_at]

/-! ## The mask of eight minima -/

theorem fx_gone (w : Fin 8192 → EReal) (hw : ∀ k, w k ≠ ⊤) (v : FVec Ideal S256x8192 .f32) (r : Fin 256) (q : ℕ) (hq : q < 8192)
    (h : Gone w q fun j : Fin 8192 => v (ix2 r j)) : Gone w (q + 1) fun j : Fin 8192 => fx v (ix2 r j) := by
  have hex : ∃ k : Fin 8192, v (ix2 r k) = Finset.univ.fold min ⊤ fun x : Fin 8192 => v (ix2 r x) := by
    rcases fold_min_mem fun x : Fin 8192 => v (ix2 r x) with h | h
    · refine ⟨0, le_antisymm (le_top.trans h.symm.le) (fold_min_le_all (fun x : Fin 8192 => v (ix2 r x)) 0)⟩
    · exact h
  obtain ⟨a, ha, hmin, hfold⟩ := first_col hex
  refine gone_succ hw hq h (a := a) (fun j hj => ?_) fun j => ?_
  · rcases hj with hj | ⟨hj, hlt⟩
    · refine absurd hj (not_lt.2 ?_)
      show v (ix2 r a) ≤ v (ix2 r j)
      rw [ha]; exact fold_min_le_all (fun x : Fin 8192 => v (ix2 r x)) j
    · exact absurd (hmin j (hj.trans ha)) (not_le.2 hlt)
  · pointwise [fx, i714]
    rw [c_top, hfold, select_eq_col]

theorem is_top_at (u : FVec Ideal S256x8192 .f32) (r : Fin 256) (k : Fin 8192) :
    select (cmpf .oeq u (broadcast S256x8192 (Scalar.ofBits .f32 0x7F800000#32))) (broadcast S256x8192 (Scalar.ofBits (F := Ideal) .f32 0x3F800000#32))
      (broadcast S256x8192 (Scalar.ofBits (F := Ideal) .f32 0x00000000#32)) (ix2 r k) = if u (ix2 r k) = ⊤ then (1 : EReal) else 0 := by
  pointwise
  rw [c_top]

theorem min8_gone (h0 : ∀ r d, Fin' (x0 (ix2 r d))) (h2 : ∀ d k, Fin' (x2 (ix2 d k))) (r : Fin 256) :
    Gone (dst (row x0 r) (mat x2)) 8 fun j : Fin 8192 => fx (fx (fx (fx (fx (fx (fx (fx (n30 x0 x2)))))))) (ix2 r j) := by
  have hw : ∀ k, dst (row x0 r) (mat x2) k ≠ ⊤ := fun k => fin_ne_top (fin_dst (h0 r) h2 k)
  have g0 : Gone (dst (row x0 r) (mat x2)) 0 fun j : Fin 8192 => n30 x0 x2 (ix2 r j) := by
    rw [n30_row]; exact gone_zero _
  generalize n30 x0 x2 = v at g0 ⊢
  have g1 := fx_gone _ hw _ r 0 (by norm_num) g0
  generalize fx v = v at g1 ⊢
  have g2 := fx_gone _ hw _ r 1 (by norm_num) g1
  generalize fx v = v at g2 ⊢
  have g3 := fx_gone _ hw _ r 2 (by norm_num) g2
  generalize fx v = v at g3 ⊢
  have g4 := fx_gone _ hw _ r 3 (by norm_num) g3
  generalize fx v = v at g4 ⊢
  have g5 := fx_gone _ hw _ r 4 (by norm_num) g4
  generalize fx v = v at g5 ⊢
  have g6 := fx_gone _ hw _ r 5 (by norm_num) g5
  generalize fx v = v at g6 ⊢
  have g7 := fx_gone _ hw _ r 6 (by norm_num) g6
  generalize fx v = v at g7 ⊢
  exact fx_gone _ hw _ r 7 (by norm_num) g7

theorem min8_at (h0 : ∀ r d, Fin' (x0 (ix2 r d))) (h2 : ∀ d k, Fin' (x2 (ix2 d k))) (r : Fin 256) (k : Fin 8192) :
    k0_pay8 i714 (n798 x0 x2) (i802 x0 x2) k0_pay7 (ix2 r k) = ind (row x0 r) (mat x2) k := by
  have e : k0_pay8 i714 (n798 x0 x2) (i802 x0 x2) k0_pay7 (ix2 r k) = _ := congrFun (pay8_eq (n30 x0 x2)) (ix2 r k)
  have g := min8_gone x0 x2 h0 h2 r
  rw [e]
  clear e
  generalize fx (fx (fx (fx (fx (fx (fx (fx (n30 x0 x2)))))))) = u at g ⊢
  rw [is_top_at, ind, ← if_congr (gone_sel (fun k => fin_ne_top (fin_dst (h0 r) h2 k)) g k) rfl rfl]

/-! ## Which of the two the body uses -/

/-- The mask in use. -/
def mask : FVec Ideal S256x8192 .f32 :=
  if Fix x0 x2 then k0_pay8 i714 (n798 x0 x2) (i802 x0 x2) k0_pay7 else k0_pay571 (n30 x0 x2) (n635 x0 x2) (n638 x0 x2)

theorem fix_iff : Fix x0 x2 ↔
    ((2048 + 1 / 2 : ℝ) : EReal) < ∑ k : Fin 8192, ∑ r : Fin 256, k0_pay571 (n30 x0 x2) (n635 x0 x2) (n638 x0 x2) (ix2 r k) := by
  have e1 : k0_pay581 (vCs x0 x2) = ∑ k : Fin 8192, ∑ r : Fin 256, k0_pay571 (n30 x0 x2) (n635 x0 x2) (n638 x0 x2) (ix2 r k) := by
    pointwise [k0_pay581, vCs, k0_pay572]
    exact Finset.sum_const _ |>.trans (one_nsmul _)
  have e2 : (k0_pay582 : Ideal .f32) = ((2048 + 1 / 2 : ℝ) : EReal) := by
    pointwise [k0_pay582]
    rw [c_2048, c_half, EReal.coe_add]
  unfold Fix
  rw [e1, e2]
  generalize (∑ k : Fin 8192, ∑ r : Fin 256, k0_pay571 (n30 x0 x2) (n635 x0 x2) (n638 x0 x2) (ix2 r k) : EReal) = s
  have e3 : (Scalar.cmpf (F := Ideal) (φ := .f32) .ogt (s : Ideal .f32) (((2048 + 1 / 2 : ℝ) : EReal) : Ideal .f32)) = BitVec.ofBool (decide (((2048 + 1 / 2 : ℝ) : EReal) < s)) := rfl
  rw [e3]
  by_cases h : ((2048 + 1 / 2 : ℝ) : EReal) < s
  · simp only [h, decide_true]; decide
  · simp only [h, decide_false]; decide

theorem all_eight {c : Fin 256 → ℕ} (h : ∀ r, 8 ≤ c r) (hs : ∑ r, c r ≤ 2048) (r : Fin 256) : c r = 8 := by
  by_contra hr
  have : ∑ _r : Fin 256, 8 < ∑ r, c r := Finset.sum_lt_sum (fun r _ => h r) ⟨r, Finset.mem_univ _, lt_of_le_of_ne (h r) (Ne.symm hr)⟩
  simp at this
  omega

theorem mask_at (h0 : ∀ r d, Fin' (x0 (ix2 r d))) (h2 : ∀ d k, Fin' (x2 (ix2 d k))) (r : Fin 256) (k : Fin 8192) :
    mask x0 x2 (ix2 r k) = ind (row x0 r) (mat x2) k := by
  unfold mask
  split_ifs with hf
  · exact min8_at x0 x2 h0 h2 r k
  · rw [fix_iff, not_lt] at hf
    obtain ⟨t, hc, ht⟩ := thr_at x0 x2
    have hcard : ∀ r, (∑ k : Fin 8192, (if dst (row x0 r) (mat x2) k ≤ t r then (1 : EReal) else 0))
        = (((Finset.univ.filter fun k => dst (row x0 r) (mat x2) k ≤ t r).card : ℕ) : EReal) := fun r => by
      rw [Finset.sum_boole]
    have hsum : ∑ r : Fin 256, (Finset.univ.filter fun k => dst (row x0 r) (mat x2) k ≤ t r).card ≤ 2048 := by
      simp only [ht] at hf
      rw [Finset.sum_comm] at hf
      simp only [hcard] at hf
      rw [← Nat.cast_sum, ← EReal.coe_natCast, EReal.coe_le_coe_iff] at hf
      have : ((∑ r : Fin 256, (Finset.univ.filter fun k => dst (row x0 r) (mat x2) k ≤ t r).card : ℕ) : ℝ) < 2049 := by linarith
      have : ∑ r : Fin 256, (Finset.univ.filter fun k => dst (row x0 r) (mat x2) k ≤ t r).card < 2049 := by exact_mod_cast this
      omega
    have h8 := all_eight hc hsum r
    rw [ht]
    unfold ind
    rw [← thresh_sel h8]
    simp

end Cert.KernelIdeal.Hand

end
-- ==== Proof.V.Body.lean ====
/- What the body leaves in its buffers at one grid point, row by row. -/
module

public import proofs.«01_k».proof.Proof.V.Mask

@[expose] public section

set_option maxRecDepth 16384

noncomputable section

namespace Cert.KernelIdeal.Hand

open scoped Classical
open Idealize.ShloMosaic Cert.KernelIdeal Cert.KernelIdeal.Gen Cert.Spec

variable (x0 : FVec Ideal S256x64 .f32) (x1 x2 : FVec Ideal S64x8192 .f32) (x3 : FVec Ideal S1x8192 .f32)

theorem vE_at (r : Fin 256) (k : Fin 8192) : vE x0 x1 x3 (ix2 r k) = ex (row x0 r) (mat x1) (bia x3) k := by
  pointwise [vE, k0_pay16, k0_pay14]
  rw [c_bot]
  rfl

theorem pay17_at (r : Fin 256) : k0_pay17 (F := Ideal) x0 x1 x3 (ix2 r 0) = den (row x0 r) (mat x1) (bia x3) := by
  pointwise [k0_pay17]
  exact Finset.sum_congr rfl fun k _ => vE_at x0 x1 x3 r k

theorem vSc_at (r : Fin 256) : vSc x0 x1 x3 (ix2 r 0) = Ideal.div 1 (8 * den (row x0 r) (mat x1) (bia x3)) := by
  pointwise [vSc, k0_pay573]
  rw [c_eight, pay17_at]

/-- A mask times the scaled softmax. -/
def coded (M : FVec Ideal S256x8192 .f32) : FVec Ideal S256x8192 .f32 :=
  mulf M (mulf (vE x0 x1 x3) (broadcastTo S256x8192 (vSc x0 x1 x3) broadcasts_S256x1_S256x8192))

theorem coded_at (M : FVec Ideal S256x8192 .f32) (r : Fin 256) (k : Fin 8192) : coded x0 x1 x3 M (ix2 r k)
    = M (ix2 r k) * (ex (row x0 r) (mat x1) (bia x3) k * Ideal.div 1 (8 * den (row x0 r) (mat x1) (bia x3))) := by
  pointwise [coded]
  rw [vE_at, vSc_at]

theorem pay9_eq (i : IVec S256x8192 32) (u : FVec Ideal S256x8192 .f32) (p : IVec S256x8192 1) (q : IVec S256x8192 32) :
    k0_pay9 (vE x0 x1 x3) (vSc x0 x1 x3) i u p q = coded x0 x1 x3 (k0_pay8 i u p q) := rfl

theorem vRep_eq : vRep x0 x1 x2 x3 = coded x0 x1 x3 (k0_pay571 (n30 x0 x2) (n635 x0 x2) (n638 x0 x2)) := rfl

theorem oRep_eq : oRep x0 x1 x2 x3 = coded x0 x1 x3 (mask x0 x2) := by
  unfold oRep mask
  split_ifs
  · rw [pay9_eq]
  · rw [vRep_eq]

theorem oZ_eq : oZ x0 x1 x2 x3 = k0_pay576 (k0_pay14 x0) (k0_pay15 x2) (oRep x0 x1 x2 x3) := by
  unfold oZ oRep
  split_ifs <;> rfl

theorem pay575_at (R : FVec Ideal S256x8192 .f32) (r : Fin 256) (d : Fin 64) :
    k0_pay575 (k0_pay14 x0) (k0_pay15 x2) R (ix2 r d) = (∑ k : Fin 8192, R (ix2 r k) * x2 (ix2 d k)) - x0 (ix2 r d) := by
  pointwise [k0_pay575, k0_pay14, k0_pay15]

theorem pay577_at (R : FVec Ideal S256x8192 .f32) : k0_pay577 (k0_pay14 x0) (k0_pay15 x2) R = ∑ r : Fin 256, ∑ d : Fin 64,
    k0_pay575 (k0_pay14 x0) (k0_pay15 x2) R (ix2 r d) * k0_pay575 (k0_pay14 x0) (k0_pay15 x2) R (ix2 r d) := by
  pointwise [k0_pay577]
  try exact Finset.sum_const _ |>.trans (one_nsmul _)

theorem pay13_eq (y : FVec Ideal S256x64 .f32) (d : FVec Ideal S64x8192 .f32) (e : FVec Ideal S256x8192 .f32) (c : FVec Ideal S256x1 .f32)
    (v : Ideal .f32) (i : IVec S256x8192 32) (u : FVec Ideal S256x8192 .f32) (p : IVec S256x8192 1) (q : IVec S256x8192 32) (w : Ideal .f32) :
    k0_pay13 y d e c v i u p q w = Scalar.addf w (Scalar.subf (k0_pay577 y d (k0_pay9 e c i u p q)) v) := rfl

theorem add_def (a b : Ideal .f32) : Scalar.addf (F := Ideal) a b = (a + b : EReal) := rfl
theorem sub_def (a b : Ideal .f32) : Scalar.subf (F := Ideal) a b = (a - b : EReal) := rfl

theorem oS_fix (v w : Ideal .f32) : k0_pay13 (k0_pay14 x0) (k0_pay15 x2) (vE x0 x1 x3) (vSc x0 x1 x3) v
    i714 (n798 x0 x2) (i802 x0 x2) k0_pay7 w = (w + (k0_pay577 (k0_pay14 x0) (k0_pay15 x2)
      (coded x0 x1 x3 (k0_pay8 i714 (n798 x0 x2) (i802 x0 x2) k0_pay7)) - v) : EReal) := by
  rw [pay13_eq, pay9_eq, add_def, sub_def]

section
variable {x0 x1 x2 x3} (h0 : ∀ r d, Fin' (x0 (ix2 r d))) (h1 : ∀ d k, Fin' (x1 (ix2 d k))) (h2 : ∀ d k, Fin' (x2 (ix2 d k)))
  (h3 : ∀ k, Fin' (x3 (ix2 0 k)))
include h0 h2

section
include h1 h3

theorem oRep_at (r : Fin 256) (k : Fin 8192) : oRep x0 x1 x2 x3 (ix2 r k) = rep (row x0 r) (mat x1) (bia x3) (mat x2) k := by
  rw [oRep_eq, coded_at, mask_at x0 x2 h0 h2]
  rfl

theorem diff_at (r : Fin 256) (d : Fin 64) : k0_pay575 (k0_pay14 x0) (k0_pay15 x2) (oRep x0 x1 x2 x3) (ix2 r d)
    = dif (row x0 r) (mat x1) (bia x3) (mat x2) d := by
  rw [pay575_at]
  simp only [oRep_at h0 h1 h2 h3]
  rfl

theorem oZ_at (r : Fin 256) (d : Fin 64) : oZ x0 x1 x2 x3 (ix2 r d) = zq (row x0 r) (mat x1) (bia x3) (mat x2) d := by
  rw [oZ_eq]
  have e : k0_pay576 (k0_pay14 x0) (k0_pay15 x2) (oRep x0 x1 x2 x3) (ix2 r d)
      = x0 (ix2 r d) + k0_pay575 (k0_pay14 x0) (k0_pay15 x2) (oRep x0 x1 x2 x3) (ix2 r d) := by
    pointwise [k0_pay576, k0_pay14]
  rw [e, diff_at h0 h1 h2 h3]
  rfl

theorem sum_sq : k0_pay577 (k0_pay14 x0) (k0_pay15 x2) (oRep x0 x1 x2 x3) = ∑ r : Fin 256, sq (row x0 r) (mat x1) (bia x3) (mat x2) := by
  rw [pay577_at]
  simp only [diff_at h0 h1 h2 h3]
  rfl

theorem fin_vRep (r : Fin 256) (k : Fin 8192) : Fin' (vRep x0 x1 x2 x3 (ix2 r k)) := by
  obtain ⟨t, -, ht⟩ := thr_at x0 x2
  rw [vRep_eq, coded_at, ht]
  exact fin_mul (fin_ite fin_one fin_zero) (fin_mul (fin_ex (h0 r) h1 h3 k) (fin_scale (h0 r) h1 h3))

theorem fin_ssq : Fin' (k0_pay577 (k0_pay14 x0) (k0_pay15 x2) (vRep x0 x1 x2 x3)) := by
  rw [pay577_at]
  have h : ∀ r d, Fin' (k0_pay575 (k0_pay14 x0) (k0_pay15 x2) (vRep x0 x1 x2 x3) (ix2 r d)) := fun r d => by
    rw [pay575_at]
    exact fin_sub (fin_sum _ fun k => fin_mul (fin_vRep h0 h1 h2 h3 r k) (h2 d k)) (h0 r d)
  exact fin_sum _ fun r => fin_sum _ fun d => fin_mul (h r d) (h r d)

theorem oS_at (s : Ideal .f32) : oS x0 x1 x2 x3 s = (s + ∑ r : Fin 256, sq (row x0 r) (mat x1) (bia x3) (mat x2) : EReal) := by
  rw [← sum_sq h0 h1 h2 h3]
  have e : ∀ R, k0_pay580 (k0_pay14 x0) (k0_pay15 x2) R s = (s + k0_pay577 (k0_pay14 x0) (k0_pay15 x2) R : EReal) := fun R => by
    rw [k0_pay580, add_def]
  unfold oS
  split_ifs with hf
  · rw [oS_fix, e, add_sub_self (fin_ssq h0 h1 h2 h3), oRep_eq, mask, if_pos hf]
  · rw [e, oRep, if_neg hf]

end

theorem oC_at (s : FVec Ideal S1x8192 .f32) (k : Fin 8192) :
    oC x0 x2 s (ix2 0 k) = (s (ix2 0 k) + ∑ r : Fin 256, ind (row x0 r) (mat x2) k : EReal) := by
  have hm : ∑ r : Fin 256, ind (row x0 r) (mat x2) k = ∑ r : Fin 256, mask x0 x2 (ix2 r k) :=
    Finset.sum_congr rfl fun r _ => (mask_at x0 x2 h0 h2 r k).symm
  have e1 : vCs x0 x2 (ix2 0 k) = ∑ r : Fin 256, k0_pay571 (n30 x0 x2) (n635 x0 x2) (n638 x0 x2) (ix2 r k) := by
    pointwise [vCs, k0_pay572]
  have e2 : k0_pay579 (vCs x0 x2) s (ix2 0 k) = s (ix2 0 k) + vCs x0 x2 (ix2 0 k) := by
    pointwise [k0_pay579]
  have e3 : ∀ w : FVec Ideal S1x8192 .f32, k0_pay12 (vCs x0 x2) i714 (n798 x0 x2) (i802 x0 x2) k0_pay7 w (ix2 0 k)
      = w (ix2 0 k) + ((∑ r : Fin 256, k0_pay8 i714 (n798 x0 x2) (i802 x0 x2) k0_pay7 (ix2 r k)) - vCs x0 x2 (ix2 0 k)) := fun w => by
    pointwise [k0_pay12]
  have hfin : Fin' (vCs x0 x2 (ix2 0 k)) := by
    obtain ⟨t, -, ht⟩ := thr_at x0 x2
    rw [e1]
    exact fin_sum _ fun r => by rw [ht]; exact fin_ite fin_one fin_zero
  rw [hm]
  unfold oC mask
  split_ifs with hf
  · rw [e3, e2, add_sub_self hfin]
  · rw [e2, e1]

end

end Cert.KernelIdeal.Hand

end
-- ==== Proof.V.Ref.lean ====
module

public import proofs.«01_k».proof.Proof.Gen.ReferenceIdeal.Run
public import Idealize.ShloMosaic.Lib.Pointwise

@[expose] public section

/-! The reference's values at the extended reals, one name each, as functions of the four arguments. -/

set_option maxRecDepth 16384

noncomputable section

namespace Cert.ReferenceIdeal.Hand

open Cert.ReferenceIdeal Cert.ReferenceIdeal.Gen Idealize.ShloMosaic

variable (a0 : FVec Ideal S8x64x32x32 .f32) (a1 a2 : FVec Ideal S8192x64 .f32) (a3 : FVec Ideal S8192 .f32)

def rv0 : FVec Ideal S8x32x32x64 .f32 := transpose S8x32x32x64 [0, 2, 3, 1] a0 transposes_S8x64x32x32_S8x32x32x64_0_2_3_1
def rv1 : FVec Ideal S8192x64 .f32 := shapeCast S8192x64 (rv0 a0) shapeCasts_S8x32x32x64_S8192x64
def rv2 : FVec Ideal S64x8192 .f32 := transpose S64x8192 [1, 0] a2 transposes_S8192x64_S64x8192_1_0
def rv3 : FVec Ideal S8192x8192 .f32 := Host.dotGeneral dot_S8192x64_S64x8192_S8192x8192_1_0_0_1_n_n none (rv1 a0) (rv2 a2)
def rv4 : FVec Ideal S1x8192 .f32 := broadcastInDim S1x8192 ![1] bcast_S8192_S1x8192_1 a3
def rv5 : FVec Ideal S8192x8192 .f32 := broadcastInDim S8192x8192 ![0, 1] bcast_S1x8192_S8192x8192_0_1 (rv4 a3)
def rv6 : FVec Ideal S8192x8192 .f32 := addf (rv3 a0 a2) (rv5 a3)
def rcst : FVec Ideal S_ .f32 := constant (F := Ideal) S_ .f32 0xFF800000#32
def rv7 : FVec Ideal S8192 .f32 := Host.reduce (FloatOps.maximumf (F := Ideal)) (rv6 a0 a2 a3) rcst reducesTo_S8192x8192_S8192_d1 h_S_
def rcst_0 : FVec Ideal S_ .f32 := constant (F := Ideal) S_ .f32 0xFF800000#32
def rv8 : FVec Ideal S8192 .f32 := broadcastInDim S8192 ![] bcast_S_S8192 rcst_0
def rv9 : FVec Ideal S8192 .f32 := maximumf rv8 (rv7 a0 a2 a3)
def rv10 : FVec Ideal S8192x1 .f32 := broadcastInDim S8192x1 ![0] bcast_S8192_S8192x1_0 (rv9 a0 a2 a3)
def rv11 : FVec Ideal S8192x8192 .f32 := broadcastInDim S8192x8192 ![0, 1] bcast_S8192x1_S8192x8192_0_1 (rv10 a0 a2 a3)
def rv12 : FVec Ideal S8192x8192 .f32 := subf (rv6 a0 a2 a3) (rv11 a0 a2 a3)
def rv13 : FVec Ideal S8192x8192 .f32 := Host.exp (rv12 a0 a2 a3)
def rcst_1 : FVec Ideal S_ .f32 := constant (F := Ideal) S_ .f32 0x00000000#32
def rv14 : FVec Ideal S8192 .f32 := Host.reduceAdd (rv13 a0 a2 a3) rcst_1 reducesTo_S8192x8192_S8192_d1 h_S_
def rv15 : FVec Ideal S8192x1 .f32 := broadcastInDim S8192x1 ![0] bcast_S8192_S8192x1_0 (rv14 a0 a2 a3)
def rv16 : FVec Ideal S8192x8192 .f32 := broadcastInDim S8192x8192 ![0, 1] bcast_S8192x1_S8192x8192_0_1 (rv15 a0 a2 a3)
def rv17 : FVec Ideal S8192x8192 .f32 := Host.divf (rv13 a0 a2 a3) (rv16 a0 a2 a3)
def rv18 : FVec Ideal S8192x64 .f32 := mulf (rv1 a0) (rv1 a0)
def rcst_2 : FVec Ideal S_ .f32 := constant (F := Ideal) S_ .f32 0x00000000#32
def rv19 : FVec Ideal S8192 .f32 := Host.reduceAdd (rv18 a0) rcst_2 reducesTo_S8192x64_S8192_d1 h_S_
def rv20 : FVec Ideal S8192x1 .f32 := broadcastInDim S8192x1 ![0] bcast_S8192_S8192x1_0 (rv19 a0)
def rv21 : FVec Ideal S8192x64 .f32 := mulf a1 a1
def rcst_3 : FVec Ideal S_ .f32 := constant (F := Ideal) S_ .f32 0x00000000#32
def rv22 : FVec Ideal S8192 .f32 := Host.reduceAdd (rv21 a1) rcst_3 reducesTo_S8192x64_S8192_d1 h_S_
def rv23 : FVec Ideal S1x8192 .f32 := broadcastInDim S1x8192 ![1] bcast_S8192_S1x8192_1 (rv22 a1)
def rv24 : FVec Ideal S8192x8192 .f32 := broadcastInDim S8192x8192 ![0, 1] bcast_S8192x1_S8192x8192_0_1 (rv20 a0)
def rv25 : FVec Ideal S8192x8192 .f32 := broadcastInDim S8192x8192 ![0, 1] bcast_S1x8192_S8192x8192_0_1 (rv23 a1)
def rv26 : FVec Ideal S8192x8192 .f32 := addf (rv24 a0) (rv25 a1)
def rv27 : FVec Ideal S64x8192 .f32 := transpose S64x8192 [1, 0] a1 transposes_S8192x64_S64x8192_1_0
def rv28 : FVec Ideal S8192x8192 .f32 := Host.dotGeneral dot_S8192x64_S64x8192_S8192x8192_1_0_0_1_n_n none (rv1 a0) (rv27 a1)
def rcst_4 : FVec Ideal S_ .f32 := constant (F := Ideal) S_ .f32 0x40000000#32
def rv29 : FVec Ideal S8192x8192 .f32 := broadcastInDim S8192x8192 ![] bcast_S_S8192x8192 rcst_4
def rv30 : FVec Ideal S8192x8192 .f32 := mulf rv29 (rv28 a0 a1)
def rv31 : FVec Ideal S8192x8192 .f32 := subf (rv26 a0 a1) (rv30 a0 a1)
def rv32 : FVec Ideal S8192x8192 .f32 := Host.negf (rv31 a0 a1)
def rindices : IVec S8192x8 32 := (Host.topK S8192x8 1 (FloatOps.cmpfTotal .gt) (rv32 a0 a1) sliceFits_S8192x8192_S8192x8).2
def rcst_5 : FVec Ideal S_ .f32 := constant (F := Ideal) S_ .f32 0x00000000#32
def rv33 : FVec Ideal S8192x8192 .f32 := broadcastInDim S8192x8192 ![] bcast_S_S8192x8192 rcst_5
def rv34 : IVec S8192 32 := iotaInDim S8192 32 0
def rv35 : IVec S8192x1 32 := broadcastInDim S8192x1 ![0] bcast_S8192_S8192x1_0 rv34
def rc : IVec S_ 32 := constantI S_ 32 0#32
def rv36 : IVec S8192x1 32 := broadcastInDim S8192x1 ![] bcast_S_S8192x1 rc
def rv37 : IVec S8192x1 1 := cmpi .slt rv35 rv36
def rc_6 : IVec S_ 32 := constantI S_ 32 8192#32
def rv38 : IVec S8192x1 32 := broadcastInDim S8192x1 ![] bcast_S_S8192x1 rc_6
def rv39 : IVec S8192x1 32 := addi rv35 rv38
def rv40 : IVec S8192x1 32 := select rv37 rv39 rv35
def rc_7 : IVec S_ 32 := constantI S_ 32 0#32
def rv41 : IVec S8192x8 32 := broadcastInDim S8192x8 ![] bcast_S_S8192x8 rc_7
def rv42 : IVec S8192x8 1 := cmpi .slt (rindices a0 a1) rv41
def rc_8 : IVec S_ 32 := constantI S_ 32 8192#32
def rv43 : IVec S8192x8 32 := broadcastInDim S8192x8 ![] bcast_S_S8192x8 rc_8
def rv44 : IVec S8192x8 32 := addi (rindices a0 a1) rv43
def rv45 : IVec S8192x8 32 := select (rv42 a0 a1) (rv44 a0 a1) (rindices a0 a1)
def rv46 : IVec S8192x8 32 := broadcastInDim S8192x8 ![0, 1] bcast_S8192x1_S8192x8_0_1 rv40
def rv47 : IVec S8192x8x1 32 := broadcastInDim S8192x8x1 ![0, 1] bcast_S8192x8_S8192x8x1_0_1 rv46
def rv48 : IVec S8192x8x1 32 := broadcastInDim S8192x8x1 ![0, 1] bcast_S8192x8_S8192x8x1_0_1 (rv45 a0 a1)
def rv49 : IVec S8192x8x2 32 := concatenate S8192x8x2 2 [⟨S8192x8x1, rv47⟩, ⟨S8192x8x1, (rv48 a0 a1)⟩] concatenates_S8192x8x1_S8192x8x1_S8192x8x2_d2
def rcst_9 : FVec Ideal S_ .f32 := constant (F := Ideal) S_ .f32 0x3F800000#32
def rv50 : FVec Ideal S8192x8 .f32 := broadcastInDim S8192x8 ![] bcast_S_S8192x8 rcst_9
def rv51 : FVec Ideal S8192x8192 .f32 := Host.scatter scatter_S8192x8192_S8192x8x2_S8192x8_n_01_01_2 (fun _ b => b) rv33 (rv49 a0 a1) rv50
def rv52 : FVec Ideal S8192x8192 .f32 := mulf (rv51 a0 a1) (rv17 a0 a2 a3)
def rcst_10 : FVec Ideal S_ .f32 := constant (F := Ideal) S_ .f32 0x41000000#32
def rv53 : FVec Ideal S8192x8192 .f32 := broadcastInDim S8192x8192 ![] bcast_S_S8192x8192 rcst_10
def rv54 : FVec Ideal S8192x8192 .f32 := Host.divf (rv52 a0 a1 a2 a3) rv53
def rv55 : FVec Ideal S8192x64 .f32 := Host.dotGeneral dot_S8192x8192_S8192x64_S8192x64_1_0_0_1_n_n none (rv54 a0 a1 a2 a3) a1
def rv56 : FVec Ideal S8x32x32x64 .f32 := shapeCast S8x32x32x64 (rv55 a0 a1 a2 a3) shapeCasts_S8192x64_S8x32x32x64
def rv57 : FVec Ideal S8x32x32x64 .f32 := subf (rv56 a0 a1 a2 a3) (rv0 a0)
def rv58 : FVec Ideal S8x32x32x64 .f32 := mulf (rv57 a0 a1 a2 a3) (rv57 a0 a1 a2 a3)
def rcst_11 : FVec Ideal S_ .f32 := constant (F := Ideal) S_ .f32 0x00000000#32
def rv59 : FVec Ideal S_ .f32 := Host.reduceAdd (rv58 a0 a1 a2 a3) rcst_11 reducesTo_S8x32x32x64_S_d0_1_2_3 h_S_
def rcst_12 : FVec Ideal S_ .f32 := constant (F := Ideal) S_ .f32 0x49000000#32
def rv60 : FVec Ideal S_ .f32 := Host.divf (rv59 a0 a1 a2 a3) rcst_12
def rcst_13 : FVec Ideal S_ .f32 := constant (F := Ideal) S_ .f32 0x3E800000#32
def rv61 : FVec Ideal S_ .f32 := mulf rcst_13 (rv60 a0 a1 a2 a3)
def rv62 : FVec Ideal S8x32x32x64 .f32 := subf (rv56 a0 a1 a2 a3) (rv0 a0)
def rv63 : FVec Ideal S8x32x32x64 .f32 := addf (rv0 a0) (rv62 a0 a1 a2 a3)
def rcst_14 : FVec Ideal S_ .f32 := constant (F := Ideal) S_ .f32 0x00000000#32
def rv64 : FVec Ideal S8192 .f32 := Host.reduceAdd (rv51 a0 a1) rcst_14 reducesTo_S8192x8192_S8192_d0 h_S_
def rcst_15 : FVec Ideal S_ .f32 := constant (F := Ideal) S_ .f32 0x46000000#32
def rv65 : FVec Ideal S8192 .f32 := broadcastInDim S8192 ![] bcast_S_S8192 rcst_15
def rv66 : FVec Ideal S8192 .f32 := Host.divf (rv64 a0 a1) rv65
def rcst_16 : FVec Ideal S_ .f32 := constant (F := Ideal) S_ .f32 0x00000000#32
def rv67 : FVec Ideal S_ .f32 := Host.reduceAdd (rv66 a0 a1) rcst_16 reducesTo_S8192_S_d0 h_S_
def rv68 : FVec Ideal S8192 .f32 := broadcastInDim S8192 ![] bcast_S_S8192 (rv67 a0 a1)
def rv69 : FVec Ideal S8192 .f32 := Host.divf (rv66 a0 a1) (rv68 a0 a1)
def rcst_17 : FVec Ideal S_ .f32 := constant (F := Ideal) S_ .f32 0x2EDBE6FF#32
def rv70 : FVec Ideal S8192 .f32 := broadcastInDim S8192 ![] bcast_S_S8192 rcst_17
def rv71 : FVec Ideal S8192 .f32 := addf (rv69 a0 a1) rv70
def rv72 : FVec Ideal S8192 .f32 := Host.log (rv71 a0 a1)
def rv73 : FVec Ideal S8192 .f32 := mulf (rv69 a0 a1) (rv72 a0 a1)
def rcst_18 : FVec Ideal S_ .f32 := constant (F := Ideal) S_ .f32 0x00000000#32
def rv74 : FVec Ideal S_ .f32 := Host.reduceAdd (rv73 a0 a1) rcst_18 reducesTo_S8192_S_d0 h_S_
def rv75 : FVec Ideal S_ .f32 := Host.negf (rv74 a0 a1)
def rv76 : FVec Ideal S_ .f32 := Host.exp (rv75 a0 a1)
def rv77 : FVec Ideal S8x64x32x32 .f32 := transpose S8x64x32x32 [0, 3, 1, 2] (rv63 a0 a1 a2 a3) transposes_S8x32x32x64_S8x64x32x32_0_3_1_2

open Idealize.ShloMosaic.TcCoe in
section
variable (m : (ℓ : Loc nD τ sig) → Buf (Elt Ideal) ℓ) (c : Dev nD)
theorem res_v54 : Value.res_main_v54 m c = rv54 (m ((c.tc : Thread nD τ).loc main_arg0)) (m ((c.tc : Thread nD τ).loc main_arg1)) (m ((c.tc : Thread nD τ).loc main_arg2)) (m ((c.tc : Thread nD τ).loc main_arg3)) := by
  unfold Value.res_main_v54
  rfl
theorem res_v76 : Value.res_main_v76 m c = rv76 (m ((c.tc : Thread nD τ).loc main_arg0)) (m ((c.tc : Thread nD τ).loc main_arg1)) := by
  unfold Value.res_main_v76
  rfl
theorem res_v77 : Value.res_main_v77 m c = rv77 (m ((c.tc : Thread nD τ).loc main_arg0)) (m ((c.tc : Thread nD τ).loc main_arg1)) (m ((c.tc : Thread nD τ).loc main_arg2)) (m ((c.tc : Thread nD τ).loc main_arg3)) := by
  unfold Value.res_main_v77
  rfl
theorem res_v61 : Value.res_main_v61 m c = rv61 (m ((c.tc : Thread nD τ).loc main_arg0)) (m ((c.tc : Thread nD τ).loc main_arg1)) (m ((c.tc : Thread nD τ).loc main_arg2)) (m ((c.tc : Thread nD τ).loc main_arg3)) := by
  unfold Value.res_main_v61
  rfl
end

end Cert.ReferenceIdeal.Hand

end
-- ==== Proof.V.RefVal.lean ====
/- The reference's values read at an index. -/
module

public import proofs.«01_k».proof.Proof.V.Ref
public import proofs.«01_k».proof.Proof.V.Row
public import proofs.«01_k».proof.Proof.V.Consts
public import Idealize.ShloMosaic.Lib.Routing.OpsSet
public import Idealize.ShloMosaic.Lib.Pipeline.Value

@[expose] public section

set_option maxRecDepth 16384

noncomputable section

namespace Cert.ReferenceIdeal.Hand

open scoped Classical
open Cert.ReferenceIdeal Cert.ReferenceIdeal.Gen Idealize.ShloMosaic Cert.Spec

variable (a0 : FVec Ideal S8x64x32x32 .f32) (a1 a2 : FVec Ideal S8192x64 .f32) (a3 : FVec Ideal S8192 .f32)

/-- One row of the flattened input. -/
abbrev frow (n : Fin 8192) : Fin 64 → EReal := fun d => rv1 a0 (ix2 n d)
/-- A matrix by its two coordinates, transposed. -/
abbrev tmat (a : FVec Ideal S8192x64 .f32) : Fin 64 → Fin 8192 → EReal := fun d k => a (ix2 k d)
/-- A vector by its coordinate. -/
abbrev vec (a3 : FVec Ideal S8192 .f32) : Fin 8192 → EReal := fun k => a3 (ix1 k)

theorem lgt_at (n k : Fin 8192) : rv6 a0 a2 a3 (ix2 n k) = lgt (frow a0 n) (tmat a2) (vec a3) k := by
  rw [rv6, rv3]
  unfold lgt frow
  generalize rv1 a0 = u
  pointwise [rv5, rv4, rv2]

theorem max_at (n : Fin 8192) : rv7 a0 a2 a3 (ix1 n) = Finset.univ.fold max ⊥ (fun k : Fin 8192 => rv6 a0 a2 a3 (ix2 n k)) := by
  rw [rv7]
  generalize rv6 a0 a2 a3 = u
  pointwise [rcst]
  rw [c_bot]

theorem max_bot_at (u v : FVec Ideal S8192 .f32) (n : Fin 8192)  (h : v (ix1 n) = (⊥ : EReal)) : maximumf v u (ix1 n) = u (ix1 n) := by
  refine (show maximumf v u (ix1 n) = max (v (ix1 n)) (u (ix1 n)) from rfl).trans ?_
  rw [h]
  exact max_eq_right bot_le

theorem div_mul_at (u v w : FVec Ideal S8192x8192 .f32) (n k : Fin 8192) :
    Host.divf (mulf u v) w (ix2 n k) = Ideal.div (u (ix2 n k) * v (ix2 n k)) (w (ix2 n k)) := rfl

theorem max_at' (n : Fin 8192) : rv9 a0 a2 a3 (ix1 n) = mxl (frow a0 n) (tmat a2) (vec a3) := by
  have e8 : rv8 (ix1 n) = (⊥ : EReal) := by
    pointwise [rv8, rcst_0]
    rw [c_bot]
  have e : rv9 a0 a2 a3 (ix1 n) = rv7 a0 a2 a3 (ix1 n) := by
    rw [rv9]
    exact max_bot_at _ _ n e8
  have e' : (fun k : Fin 8192 => rv6 a0 a2 a3 (ix2 n k)) = lgt (frow a0 n) (tmat a2) (vec a3) := funext fun k => lgt_at a0 a2 a3 n k
  rw [e, max_at, e', mxl]

theorem ex_at (n k : Fin 8192) : rv13 a0 a2 a3 (ix2 n k) = ex (frow a0 n) (tmat a2) (vec a3) k := by
  have e : rv13 a0 a2 a3 (ix2 n k) = Ideal.exp (rv6 a0 a2 a3 (ix2 n k) - rv9 a0 a2 a3 (ix1 n)) := by
    rw [rv13, rv12, rv11, rv10]
    generalize rv9 a0 a2 a3 = u
    generalize rv6 a0 a2 a3 = v
    pointwise
  rw [e, max_at', lgt_at, ex]

theorem prob_at (n k : Fin 8192) : rv17 a0 a2 a3 (ix2 n k) = Ideal.div (ex (frow a0 n) (tmat a2) (vec a3) k) (den (frow a0 n) (tmat a2) (vec a3)) := by
  have e : rv17 a0 a2 a3 (ix2 n k) = Ideal.div (rv13 a0 a2 a3 (ix2 n k)) (∑ i : Fin 8192, rv13 a0 a2 a3 (ix2 n i)) := by
    rw [rv17, rv16, rv15, rv14]
    generalize rv13 a0 a2 a3 = u
    pointwise [rcst_1]
  rw [e, den]
  simp only [ex_at]

theorem dst_at (n k : Fin 8192) : rv31 a0 a1 (ix2 n k) = dst (frow a0 n) (tmat a1) k := by
  rw [rv31, rv30, rv28, rv26, rv24, rv20, rv19, rv18]
  unfold dst frow
  generalize rv1 a0 = u
  pointwise [rv29, rv27, rv25, rv23, rv22, rv21, rcst_2, rcst_3, rcst_4]
  rw [c_two]

/-- Where the top-k's place `s` of row `n` finds its element. -/
def pos (n : Fin 8192) (s : Fin 8) : Fin 8192 :=
  sortedFrom (fun k k' : Fin 8192 => FloatOps.cmpfTotal (F := Ideal) (φ := .f32) .gt (rv32 a0 a1 (ix2 n k)) (rv32 a0 a1 (ix2 n k')) == 1#1)
    (s.castLE (by norm_num))

theorem along_row (n k : Fin 8192) (k' : Fin (S8192x8192.size 1)) : Shape.Idx.along (s := S8192x8192) (ix2 n k) 1 k' = ix2 n k' := by
  funext a
  fin_cases a <;> rfl

theorem topK_at (x : FVec Ideal S8192x8192 .f32) (n : Fin 8192) (s : Fin 8) :
    (Host.topK S8192x8 1 (FloatOps.cmpfTotal (F := Ideal) (φ := .f32) .gt) x sliceFits_S8192x8192_S8192x8).2 (ix2 n s) = BitVec.ofNat 32
      (sortedFrom (fun k k' : Fin 8192 => FloatOps.cmpfTotal (F := Ideal) (φ := .f32) .gt (x (ix2 n k)) (x (ix2 n k')) == 1#1)
        (s.castLE (by norm_num))).val := by
  have hJ : (fun a => ⟨0 + (ix2 n s (a.cast sliceFits_S8192x8192_S8192x8.1.symm)).val,
      Nat.lt_of_lt_of_le (Nat.add_lt_add_left (ix2 n s _).isLt _) (sliceFits_S8192x8192_S8192x8.2 a)⟩ : S8192x8192.Idx)
      = ix2 n (s.castLE (by norm_num)) := by
    funext a
    refine Fin.ext ?_
    fin_cases a <;> exact Nat.zero_add _
  have e : ∀ J : S8192x8192.Idx, (Host.sort2 S8192x8192 1 (fun l r => FloatOps.cmpfTotal (F := Ideal) (φ := .f32) .gt l.1 r.1) x
      (fun i => if hd : 1 < S8192x8192.rank then iotaInDim S8192x8192 32 ⟨1, hd⟩ i else 0#32)).2 J
      = BitVec.ofNat 32 ((J.along 1 (sortedFrom (fun k k' => FloatOps.cmpfTotal (F := Ideal) (φ := .f32) .gt (x (J.along 1 k)) (x (J.along 1 k')) == 1#1)
        (J 1))) 1).val := fun J => rfl
  have e0 : (Host.topK S8192x8 1 (FloatOps.cmpfTotal (F := Ideal) (φ := .f32) .gt) x sliceFits_S8192x8192_S8192x8).2 (ix2 n s)
      = (Host.sort2 S8192x8192 1 (fun l r => FloatOps.cmpfTotal (F := Ideal) (φ := .f32) .gt l.1 r.1) x
      (fun i => if hd : 1 < S8192x8192.rank then iotaInDim S8192x8192 32 ⟨1, hd⟩ i else 0#32)).2
      (fun a => ⟨0 + (ix2 n s (a.cast sliceFits_S8192x8192_S8192x8.1.symm)).val,
        Nat.lt_of_lt_of_le (Nat.add_lt_add_left (ix2 n s _).isLt _) (sliceFits_S8192x8192_S8192x8.2 a)⟩) := rfl
  rw [e0, hJ]
  have e2 := e (ix2 n (s.castLE (by norm_num)))
  simp only [along_row] at e2
  exact e2

theorem indices_at (n : Fin 8192) (s : Fin 8) : rindices a0 a1 (ix2 n s) = BitVec.ofNat 32 (pos a0 a1 n s).val := by
  rw [rindices, topK_at, pos]

theorem pos_sel (n k : Fin 8192) : (∃ s, pos a0 a1 n s = k) ↔ k ∈ Sel 8 (dst (frow a0 n) (tmat a1)) := by
  refine sorted_sel (m := 8) (by norm_num) _ (fun i j => ?_) k
  have e : ∀ k, rv32 a0 a1 (ix2 n k) = - dst (frow a0 n) (tmat a1) k := fun k => by
    rw [← dst_at, rv32]
    generalize rv31 a0 a1 = u
    pointwise
  have e' : FloatOps.cmpfTotal (F := Ideal) (φ := .f32) .gt (rv32 a0 a1 (ix2 n i)) (rv32 a0 a1 (ix2 n j))
      = BitVec.ofBool (decide (rv32 a0 a1 (ix2 n j) < rv32 a0 a1 (ix2 n i))) := rfl
  rw [e', e, e]
  by_cases h : - dst (frow a0 n) (tmat a1) j < - dst (frow a0 n) (tmat a1) i
  · simp only [h, decide_true]
    simpa using EReal.neg_lt_neg_iff.1 h
  · simp only [h, decide_false]
    simpa using fun h' => h (EReal.neg_lt_neg_iff.2 h')

theorem wrap_col (k : Fin 8192) : Scalar.select (IntOp.cmpi .slt (BitVec.ofNat 32 k.val) 0#32) (IntOp.addi (BitVec.ofNat 32 k.val) 8192#32)
    (BitVec.ofNat 32 k.val) = BitVec.ofNat 32 k.val := by
  have h : (BitVec.ofNat 32 k.val).slt 0#32 = false := by
    rw [Bool.eq_false_iff, ne_eq, BitVec.slt_iff_toInt_lt, toInt_col k.val (by have := k.isLt; omega)]
    have : (0#32).toInt = 0 := by decide
    rw [this]; omega
  unfold Scalar.select IntOp.cmpi
  simp only [h]
  rfl

theorem ids_row (n : Fin 8192) (s : Fin 8) : rv49 a0 a1 (ix3 n s 0) = BitVec.ofNat 32 n.val := by
  pointwise [rv49, rv47, rv46, rv40, rv39, rv38, rv37, rv36, rv35, rv34, rc, rc_6]
  exact wrap_col n

theorem ids_col (n : Fin 8192) (s : Fin 8) : rv49 a0 a1 (ix3 n s 1) = BitVec.ofNat 32 (pos a0 a1 n s).val := by
  have h := indices_at a0 a1 n s
  rw [rv49, rv48, rv45, rv44, rv42]
  generalize rindices a0 a1 = u at h ⊢
  pointwise [rv43, rv41, rc_7, rc_8]
  rw [h]
  exact wrap_col _

theorem lands (n' : Fin 8192) (s : Fin 8) (n k : Fin 8192) :
    scatter_S8192x8192_S8192x8x2_S8192x8_n_01_01_2.resultIdx? (ix2 n' s) (rv49 a0 a1) = some (ix2 n k) ↔ n' = n ∧ pos a0 a1 n' s = k := by
  rw [ix2_eq_valueIdx, ix2_eq_valueIdx]
  refine (Routing.scatter_lands2 (R := 8192) (C := 8192) (A := 8192) (B := 8) scatter_S8192x8192_S8192x8x2_S8192x8_n_01_01_2 rfl rfl rfl
    (rv49 a0 a1) n' s n k).trans ?_
  rw [← ix3_eq_valueIdx, ← ix3_eq_valueIdx, ids_row, ids_col, toInt_col n'.val (by omega), toInt_col (pos a0 a1 n' s).val (by omega)]
  simp only [Nat.cast_inj, Fin.ext_iff]

theorem enc_at (n k : Fin 8192) : rv51 a0 a1 (ix2 n k) = ind (frow a0 n) (tmat a1) k := by
  unfold ind
  have h1 : ∀ j, rv50 j = (1 : EReal) := fun j => by
    idx_vars j
    pointwise [rv50, rcst_9]
  split_ifs with h
  · obtain ⟨s, hs⟩ := (pos_sel a0 a1 n k).2 h
    exact Routing.scatter_set_hit _ _ _ _ _ _ (fun j _ => h1 j) (ix2 n s) ((lands a0 a1 n s n k).2 ⟨rfl, hs⟩)
  · refine (Routing.scatter_set_miss _ _ _ _ _ fun j hj => h ?_).trans ?_
    · rw [eq_ix2 j] at hj
      obtain ⟨e1, e2⟩ := (lands a0 a1 _ _ n k).1 hj
      rw [← pos_sel]
      exact ⟨j 1, e1 ▸ e2⟩
    · pointwise [rv33, rcst_5]

theorem rep_at (hx : ∀ n d, Fin' (rv1 a0 (ix2 n d))) (hW : ∀ k d, Fin' (a2 (ix2 k d))) (hb : ∀ k, Fin' (a3 (ix1 k))) (n k : Fin 8192) :
    rv54 a0 a1 a2 a3 (ix2 n k) = rep (frow a0 n) (tmat a2) (vec a3) (tmat a1) k := by
  have e8 : rv53 (ix2 n k) = (8 : EReal) := by
    pointwise [rv53, rcst_10]
    rw [c_eight]
  have e : rv54 a0 a1 a2 a3 (ix2 n k) = Ideal.div (rv51 a0 a1 (ix2 n k) * rv17 a0 a2 a3 (ix2 n k)) 8 := by
    rw [rv54, rv52, div_mul_at, e8]
  rw [e, enc_at, prob_at, rep_eq (hx n) (fun d k => hW k d) hb]

theorem dif_at (hx : ∀ n d, Fin' (rv1 a0 (ix2 n d))) (hW : ∀ k d, Fin' (a2 (ix2 k d))) (hb : ∀ k, Fin' (a3 (ix1 k))) (n : Fin 8192) (d : Fin 64) :
    subf (rv55 a0 a1 a2 a3) (rv1 a0) (ix2 n d) = dif (frow a0 n) (tmat a2) (vec a3) (tmat a1) d := by
  have e : subf (rv55 a0 a1 a2 a3) (rv1 a0) (ix2 n d) = (∑ k : Fin 8192, rv54 a0 a1 a2 a3 (ix2 n k) * a1 (ix2 k d)) - rv1 a0 (ix2 n d) := by
    rw [rv55]
    generalize rv54 a0 a1 a2 a3 = u
    generalize rv1 a0 = v
    pointwise
  rw [e, dif]
  simp only [rep_at a0 a1 a2 a3 hx hW hb]

end Cert.ReferenceIdeal.Hand

end
-- ==== Proof.V.Out.lean ====
/- The two scalar results: the scaled squared error, and the exponential of the entropy of the code's column counts. -/
module

public import proofs.«01_k».proof.Proof.V.Row
public import proofs.«01_k».proof.Proof.V.Consts

@[expose] public section

set_option maxRecDepth 16384

noncomputable section

namespace Cert.Spec

open Idealize.ShloMosaic

/-- The mean count of a column. -/
def avg (cnt : Fin 8192 → EReal) (k : Fin 8192) : EReal := cnt k * Ideal.ofBits .f32 0x39000000#32
/-- A column's share of the counts. -/
def share (cnt : Fin 8192 → EReal) (k : Fin 8192) : EReal := Ideal.div (avg cnt k) (∑ j, avg cnt j)
/-- The perplexity. -/
def perp (cnt : Fin 8192 → EReal) : EReal :=
  Ideal.exp (-(∑ k, share cnt k * Ideal.log (share cnt k + Ideal.ofBits .f32 0x2EDBE6FF#32)))
/-- The loss. -/
def loss (s : EReal) : EReal := Ideal.ofBits .f32 0x35000000#32 * s

theorem avg_eq (x : EReal) : Ideal.div x (Ideal.ofBits .f32 0x46000000#32) = x * Ideal.ofBits .f32 0x39000000#32 := by
  rw [c_8192, c_avg]
  unfold Ideal.div
  rw [if_neg (by exact_mod_cast (by norm_num : (8192 : ℝ) ≠ 0)), ← EReal.coe_inv, one_div]

theorem loss_eq (x : EReal) : Ideal.ofBits .f32 0x3E800000#32 * Ideal.div x (Ideal.ofBits .f32 0x49000000#32) = loss x := by
  unfold loss
  rw [c_quarter, c_numel, c_loss]
  unfold Ideal.div
  rw [if_neg (by exact_mod_cast (by norm_num : (524288 : ℝ) ≠ 0)), ← EReal.coe_inv, mul_comm x, ← mul_assoc, ← EReal.coe_mul]
  congr 2
  norm_num

theorem c_zero : Ideal.ofBits .f32 0x00000000#32 = 0 := by simp [Ideal.ofBits, Ideal.ieee]

end Cert.Spec

end
-- ==== Proof.V.RefOut.lean ====
/- The reference's four results in terms of its rows. -/
module

public import proofs.«01_k».proof.Proof.V.RefVal
public import proofs.«01_k».proof.Proof.V.Out

@[expose] public section

set_option maxRecDepth 16384

noncomputable section

namespace Cert.ReferenceIdeal.Hand

open scoped Classical
open Cert.ReferenceIdeal Cert.ReferenceIdeal.Gen Idealize.ShloMosaic Cert.Spec

variable (a0 : FVec Ideal S8x64x32x32 .f32) (a1 a2 : FVec Ideal S8192x64 .f32) (a3 : FVec Ideal S8192 .f32)

/-- The reconstruction less the flattened input. -/
def dflat : FVec Ideal S8192x64 .f32 := subf (rv55 a0 a1 a2 a3) (rv1 a0)
/-- The flattened quantized rows. -/
def zflat : FVec Ideal S8192x64 .f32 := addf (rv1 a0) (dflat a0 a1 a2 a3)

theorem cast_sub (u v : FVec Ideal S8192x64 .f32) :
    subf (shapeCast S8x32x32x64 u shapeCasts_S8192x64_S8x32x32x64) (shapeCast S8x32x32x64 v shapeCasts_S8192x64_S8x32x32x64)
      = shapeCast S8x32x32x64 (subf u v) shapeCasts_S8192x64_S8x32x32x64 := rfl
theorem cast_add (u v : FVec Ideal S8192x64 .f32) :
    addf (shapeCast S8x32x32x64 u shapeCasts_S8192x64_S8x32x32x64) (shapeCast S8x32x32x64 v shapeCasts_S8192x64_S8x32x32x64)
      = shapeCast S8x32x32x64 (addf u v) shapeCasts_S8192x64_S8x32x32x64 := rfl
theorem cast_mul (u v : FVec Ideal S8192x64 .f32) :
    mulf (shapeCast S8x32x32x64 u shapeCasts_S8192x64_S8x32x32x64) (shapeCast S8x32x32x64 v shapeCasts_S8192x64_S8x32x32x64)
      = shapeCast S8x32x32x64 (mulf u v) shapeCasts_S8192x64_S8x32x32x64 := rfl

theorem cast_back (u : FVec Ideal S8x32x32x64 .f32) :
    shapeCast S8x32x32x64 (shapeCast S8192x64 u shapeCasts_S8x32x32x64_S8192x64) shapeCasts_S8192x64_S8x32x32x64 = u := by
  rw [shapeCast_shapeCast]

theorem rv0_eq : rv0 a0 = shapeCast S8x32x32x64 (rv1 a0) shapeCasts_S8192x64_S8x32x32x64 := by
  rw [rv1, cast_back]

theorem rv57_eq : rv57 a0 a1 a2 a3 = shapeCast S8x32x32x64 (dflat a0 a1 a2 a3) shapeCasts_S8192x64_S8x32x32x64 := by
  rw [rv57, rv56, rv0_eq, cast_sub, dflat]

theorem rv63_eq : rv63 a0 a1 a2 a3 = shapeCast S8x32x32x64 (zflat a0 a1 a2 a3) shapeCasts_S8192x64_S8x32x32x64 := by
  rw [rv63, rv62, rv56, rv0_eq, cast_sub, cast_add, zflat, dflat]

theorem rv77_eq : rv77 a0 a1 a2 a3 = transpose S8x64x32x32 [0, 3, 1, 2]
    (shapeCast S8x32x32x64 (zflat a0 a1 a2 a3) shapeCasts_S8192x64_S8x32x32x64) transposes_S8x32x32x64_S8x64x32x32_0_3_1_2 := by
  rw [rv77, rv63_eq]

instance : Subsingleton S_.Idx := ⟨fun a b => funext fun i => i.elim0⟩

theorem sum_all (y : FVec Ideal S8192x64 .f32) (v : FVec Ideal S_ .f32) (hv : ∀ i, v i = (0 : EReal)) (j : S_.Idx) :
    Host.reduceAdd (shapeCast S8x32x32x64 y shapeCasts_S8192x64_S8x32x32x64) v reducesTo_S8x32x32x64_S_d0_1_2_3 h_S_ j
      = (∑ n : Fin 8192, ∑ d : Fin 64, y (ix2 n d) : EReal) := by
  rw [Host.reduceAdd_apply, Ideal.hostReduceAdd_def]
  unfold Ideal.hostReduceAdd
  rw [Finset.filter_true_of_mem (fun i _ => Subsingleton.elim _ _), hv, zero_add]
  exact (Equiv.sum_comp (Shape.reshapeEquiv shapeCasts_S8192x64_S8x32x32x64) y).trans (sum_idx2 y)

theorem mul_at {s : Shape} (u v : FVec Ideal s .f32) (j : s.Idx) : mulf u v j = (u j * v j : EReal) := rfl
theorem add_at {s : Shape} (u v : FVec Ideal s .f32) (j : s.Idx) : addf u v j = (u j + v j : EReal) := rfl
theorem div_at {s : Shape} (u v : FVec Ideal s .f32) (j : s.Idx) : Host.divf u v j = Ideal.div (u j) (v j) := rfl
theorem log_at {s : Shape} (u : FVec Ideal s .f32) (j : s.Idx) : Host.log u j = Ideal.log (u j) := rfl
theorem exp_at {s : Shape} (u : FVec Ideal s .f32) (j : s.Idx) : Host.exp u j = Ideal.exp (u j) := rfl
theorem neg_at {s : Shape} (u : FVec Ideal s .f32) (j : s.Idx) : Host.negf u j = (-(u j) : EReal) := rfl
theorem cst_at {s : Shape} (b : BitVec 32) (j : s.Idx) : constant (F := Ideal) s .f32 b j = Ideal.ofBits .f32 b := rfl

section
variable (hx : ∀ n d, Fin' (rv1 a0 (ix2 n d))) (hW : ∀ k d, Fin' (a2 (ix2 k d))) (hb : ∀ k, Fin' (a3 (ix1 k)))
include hx hW hb

theorem zflat_at (n : Fin 8192) (d : Fin 64) : zflat a0 a1 a2 a3 (ix2 n d) = zq (frow a0 n) (tmat a2) (vec a3) (tmat a1) d := by
  rw [zflat, add_at, dflat, dif_at a0 a1 a2 a3 hx hW hb]
  rfl

theorem rv61_at (j : S_.Idx) : rv61 a0 a1 a2 a3 j = loss (∑ n : Fin 8192, sq (frow a0 n) (tmat a2) (vec a3) (tmat a1)) := by
  have e : rv59 a0 a1 a2 a3 j = (∑ n : Fin 8192, sq (frow a0 n) (tmat a2) (vec a3) (tmat a1) : EReal) := by
    rw [rv59, rv58, rv57_eq, cast_mul, rcst_11, sum_all _ (constant (F := Ideal) S_ .f32 0x00000000#32) (fun i => (cst_at _ i).trans c_zero)]
    refine Finset.sum_congr rfl fun n _ => Finset.sum_congr rfl fun d _ => ?_
    rw [mul_at, dflat, dif_at a0 a1 a2 a3 hx hW hb]
  rw [rv61, mul_at, rv60, div_at, e, rcst_12, rcst_13, cst_at, cst_at]
  exact loss_eq _

end

theorem rv64_at (k : Fin 8192) : rv64 a0 a1 (ix1 k) = (∑ n : Fin 8192, ind (frow a0 n) (tmat a1) k : EReal) := by
  have e : ∀ u : FVec Ideal S8192x8192 .f32, Host.reduceAdd u rcst_14 reducesTo_S8192x8192_S8192_d0 h_S_ (ix1 k)
      = (∑ n : Fin 8192, u (ix2 n k) : EReal) := fun u => by
    pointwise [rcst_14]
  rw [rv64, e]
  exact Finset.sum_congr rfl fun n _ => enc_at a0 a1 n k

theorem bc_at (v : FVec Ideal S_ .f32) (k : Fin 8192) : broadcastInDim S8192 ![] bcast_S_S8192 v (ix1 k) = v (fun i => i.elim0) := by
  refine congrArg v (Subsingleton.elim _ _)

theorem sum_vec (u : FVec Ideal S8192 .f32) (v : FVec Ideal S_ .f32) (hv : ∀ i, v i = (0 : EReal)) (j : S_.Idx) :
    Host.reduceAdd u v reducesTo_S8192_S_d0 h_S_ j = (∑ k : Fin 8192, u (ix1 k) : EReal) := by
  pointwise []
  rw [hv, zero_add]

/-- The column counts. -/
abbrev cnt (k : Fin 8192) : EReal := ∑ n : Fin 8192, ind (frow a0 n) (tmat a1) k

theorem rv66_at (k : Fin 8192) : rv66 a0 a1 (ix1 k) = avg (cnt a0 a1) k := by
  rw [rv66, div_at, rv65, bc_at, rcst_15, cst_at, rv64_at, avg_eq]
  rfl

theorem rv69_at (k : Fin 8192) : rv69 a0 a1 (ix1 k) = share (cnt a0 a1) k := by
  rw [rv69, div_at, rv68, bc_at, rv67, rcst_16, sum_vec _ (constant (F := Ideal) S_ .f32 0x00000000#32) (fun i => (cst_at _ i).trans c_zero), rv66_at]
  unfold share
  congr 1
  exact Finset.sum_congr rfl fun k _ => rv66_at a0 a1 k

theorem rv73_at (k : Fin 8192) : rv73 a0 a1 (ix1 k)
    = share (cnt a0 a1) k * Ideal.log (share (cnt a0 a1) k + Ideal.ofBits .f32 0x2EDBE6FF#32) := by
  rw [rv73, mul_at, rv72, log_at, rv71, add_at, rv70, bc_at, rcst_17, cst_at, rv69_at]

theorem rv76_at (j : S_.Idx) : rv76 a0 a1 j = perp (cnt a0 a1) := by
  rw [rv76, exp_at, rv75, neg_at, rv74, rcst_18, sum_vec _ (constant (F := Ideal) S_ .f32 0x00000000#32) (fun i => (cst_at _ i).trans c_zero)]
  unfold perp
  congr 2
  exact Finset.sum_congr rfl fun k _ => rv73_at a0 a1 k

end Cert.ReferenceIdeal.Hand

end
-- ==== Proof.V.Blocks.lean ====
/- The blocks the grid points read, as rows of the arguments, and the running sums after each point. -/
module

public import proofs.«01_k».proof.Proof.KI.Run
public import proofs.«01_k».proof.Proof.V.Body
public import proofs.«01_k».proof.Proof.V.RefOut
public import Idealize.ShloMosaic.Lib.Pipeline.ValueKit

@[expose] public section

set_option maxRecDepth 16384

noncomputable section

namespace Cert.KernelIdeal.Hand

open scoped Classical
open Cert.KernelIdeal Cert.KernelIdeal.Gen Cert.Spec
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

/-- The arguments. -/
abbrev ar0 : FVec Ideal S8x64x32x32 .f32 := m ((c.tc : Thread nD τ).loc main_arg0)
abbrev ar1 : FVec Ideal S8192x64 .f32 := m ((c.tc : Thread nD τ).loc main_arg1)
abbrev ar2 : FVec Ideal S8192x64 .f32 := m ((c.tc : Thread nD τ).loc main_arg2)
abbrev ar3 : FVec Ideal S8192 .f32 := m ((c.tc : Thread nD τ).loc main_arg3)

/-- One row of the flattened input. -/
abbrev xrow (n : Fin 8192) : Fin 64 → EReal := ReferenceIdeal.Hand.frow (ar0 m c) n
abbrev wmat : Fin 64 → Fin 8192 → EReal := ReferenceIdeal.Hand.tmat (ar2 m c)
abbrev dmat : Fin 64 → Fin 8192 → EReal := ReferenceIdeal.Hand.tmat (ar1 m c)
abbrev bvec : Fin 8192 → EReal := ReferenceIdeal.Hand.vec (ar3 m c)

/-! ## What the launch finds in the staged arrays -/

theorem V_v1 : V m c main_v1 = ReferenceIdeal.Hand.rv1 (ar0 m c) := by
  entry_read
  rfl

theorem V_v2 : V m c main_v2 = transpose S64x8192 [1, 0] (ar2 m c) transposes_S8192x64_S64x8192_1_0 := by
  entry_read
  rfl

theorem V_v3 : V m c main_v3 = transpose S64x8192 [1, 0] (ar1 m c) transposes_S8192x64_S64x8192_1_0 := by
  entry_read
  rfl

theorem V_v4 : V m c main_v4 = shapeCast S1x8192 (ar3 m c) shapeCasts_S8192_S1x8192 := by
  entry_read
  rfl

theorem tr_at (a : FVec Ideal S8192x64 .f32) (d : Fin 64) (k : Fin 8192) :
    transpose S64x8192 [1, 0] a transposes_S8192x64_S64x8192_1_0 (ix2 d k) = a (ix2 k d) := by
  pointwise []

theorem sc_at (a : FVec Ideal S8192 .f32) (k : Fin 8192) :
    shapeCast S1x8192 a shapeCasts_S8192_S1x8192 (ix2 0 k) = a (ix1 k) := by
  pointwise []

/-! ## The blocks -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

theorem t_lt (t : Fin cfg0.N) : t.val < 32 := lt_of_lt_of_eq t.isLt N_0

/-- The row of the flattened input that a block's row is. -/
def at' (t : ℕ) (h : t < 32) (r : Fin 256) : Fin 8192 := ⟨t * 256 + r.val, by have := r.isLt; omega⟩

theorem blk0 (t : Fin cfg0.N) (r : Fin 256) (d : Fin 64) :
    iblk m c 0 t (ix2 r d) = ReferenceIdeal.Hand.rv1 (ar0 m c) (ix2 (at' t.val (t_lt t) r) d) := by
  rw [← V_v1]
  unfold at'
  blk_ext [iblk, V, idx0 t]

theorem blk1 (t : Fin cfg0.N) (d : Fin 64) (k : Fin 8192) : iblk m c 1 t (ix2 d k) = ar2 m c (ix2 k d) := by
  rw [← tr_at (ar2 m c), ← V_v2]
  blk_ext [iblk, V, idx1 t]

theorem blk2 (t : Fin cfg0.N) (d : Fin 64) (k : Fin 8192) : iblk m c 2 t (ix2 d k) = ar1 m c (ix2 k d) := by
  rw [← tr_at (ar1 m c), ← V_v3]
  blk_ext [iblk, V, idx2 t]

theorem blk3 (t : Fin cfg0.N) (k : Fin 8192) : iblk m c 3 t (ix2 0 k) = ar3 m c (ix1 k) := by
  rw [← sc_at (ar3 m c), ← V_v4]
  blk_ext [iblk, V, idx3 t]

theorem row_eq (t : Fin cfg0.N) (r : Fin 256) : row (iblk m c 0 t) r = xrow m c (at' t.val (t_lt t) r) := funext fun d => blk0 m c t r d
theorem mat1_eq (t : Fin cfg0.N) : mat (iblk m c 1 t) = wmat m c := funext fun d => funext fun k => blk1 m c t d k
theorem mat2_eq (t : Fin cfg0.N) : mat (iblk m c 2 t) = dmat m c := funext fun d => funext fun k => blk2 m c t d k
theorem bia_eq (t : Fin cfg0.N) : bia (iblk m c 3 t) = bvec m c := funext fun k => blk3 m c t k

/-! ## The running sums -/

/-- Every element of the arguments is a real number. -/
structure Real' : Prop where
  h0 : ∀ i, Fin' (ar0 m c i)
  h1 : ∀ i, Fin' (ar1 m c i)
  h2 : ∀ i, Fin' (ar2 m c i)
  h3 : ∀ i, Fin' (ar3 m c i)

section
variable {m c} (h : Real' m c)
include h

theorem fxx (n : Fin 8192) (d : Fin 64) : Fin' (ReferenceIdeal.Hand.rv1 (ar0 m c) (ix2 n d)) := h.h0 _
theorem fb0 (t : Fin cfg0.N) (r : Fin 256) (d : Fin 64) : Fin' (iblk m c 0 t (ix2 r d)) := blk0 m c t r d ▸ fxx h _ _
theorem fb1 (t : Fin cfg0.N) (d : Fin 64) (k : Fin 8192) : Fin' (iblk m c 1 t (ix2 d k)) := blk1 m c t d k ▸ h.h2 _
theorem fb2 (t : Fin cfg0.N) (d : Fin 64) (k : Fin 8192) : Fin' (iblk m c 2 t (ix2 d k)) := blk2 m c t d k ▸ h.h1 _
theorem fb3 (t : Fin cfg0.N) (k : Fin 8192) : Fin' (iblk m c 3 t (ix2 0 k)) := blk3 m c t k ▸ h.h3 _

end

/-- A function of the rows, by row number. -/
def ext (g : Fin 8192 → EReal) (n : ℕ) : EReal := if hn : n < 8192 then g ⟨n, hn⟩ else 0

theorem ext_at (g : Fin 8192 → EReal) (t : ℕ) (ht : t < 32) (r : Fin 256) : ext g (t * 256 + r.val) = g (at' t ht r) := by
  have := r.isLt
  exact dif_pos (by omega)

theorem ext_sum (g : Fin 8192 → EReal) : ∑ a ∈ Finset.range 32, ∑ b ∈ Finset.range 256, ext g (a * 256 + b) = ∑ n, g n := by
  rw [← Finset.sum_range_mul_split 32 256 (ext g), Finset.sum_range]
  exact Finset.sum_congr rfl fun n _ => dif_pos n.isLt

theorem ext_step (g : Fin 8192 → EReal) (t : ℕ) (ht : t < 32) :
    ∑ b ∈ Finset.range 256, ext g (t * 256 + b) = ∑ r : Fin 256, g (at' t ht r) := by
  rw [Finset.sum_range]
  exact Finset.sum_congr rfl fun r _ => ext_at g t ht r

/-- The rows' indicators at one column, and the rows' squared errors. -/
abbrev gC (k : Fin 8192) (n : Fin 8192) : EReal := ind (xrow m c n) (dmat m c) k
abbrev gS (n : Fin 8192) : EReal := sq (xrow m c n) (wmat m c) (bvec m c) (dmat m c)

theorem pay578_at (k : Fin 8192) : (k0_pay578 (F := Ideal) (ix2 0 k) : EReal) = 0 :=
  (show k0_pay578 (F := Ideal) (ix2 0 k) = Ideal.ofBits .f32 0x00000000#32 from rfl).trans c_zero

section
variable {m c} (h : Real' m c)
include h

theorem stepC (t : Fin cfg0.N) (s : FVec Ideal S1x8192 .f32) (k : Fin 8192) : oC (iblk m c 0 t) (iblk m c 2 t) s (ix2 0 k)
    = (s (ix2 0 k) + ∑ b ∈ Finset.range 256, ext (gC m c k) (t.val * 256 + b) : EReal) := by
  rw [oC_at (fb0 h t) (fb2 h t), mat2_eq, ext_step _ _ (t_lt t)]
  simp only [row_eq]

theorem stepS (t : Fin cfg0.N) (s : Ideal .f32) : oS (iblk m c 0 t) (iblk m c 1 t) (iblk m c 2 t) (iblk m c 3 t) s
    = (s + ∑ b ∈ Finset.range 256, ext (gS m c) (t.val * 256 + b) : EReal) := by
  rw [oS_at (fb0 h t) (fb1 h t) (fb2 h t) (fb3 h t), mat1_eq, mat2_eq, bia_eq, ext_step _ _ (t_lt t)]
  simp only [row_eq]

omit h in
theorem fst_of {α β : Type} {p : α × β} {a : α} {b : β} (e : p = (a, b)) : p.1 = a := by rw [e]
omit h in
theorem snd_of {α β : Type} {p : α × β} {a : α} {b : β} (e : p = (a, b)) : p.2 = b := by rw [e]

omit h in
theorem sum_zero_C (k : Fin 8192) (hn) : (sAt m c 0 hn).1 (ix2 0 k) = (0 : EReal) := by
  rw [show sAt m c 0 hn = (k0_pay578 (F := Ideal), Scalar.ofBits .f32 0x00000000#32) from rfl]
  exact pay578_at k

omit h in
theorem sum_zero_S (hn) : (sAt m c 0 hn).2 = (0 : EReal) := by
  rw [show sAt m c 0 hn = (k0_pay578 (F := Ideal), Scalar.ofBits .f32 0x00000000#32) from rfl]
  exact c_zero

theorem sum_next_C (t : Fin cfg0.N) (k : Fin 8192) : (sAt m c (t.val + 1) t.isLt).1 (ix2 0 k)
    = ((sAt m c t.val (Nat.le_of_lt t.isLt)).1 (ix2 0 k) + ∑ b ∈ Finset.range 256, ext (gC m c k) (t.val * 256 + b) : EReal) := by
  rw [fst_of (sAt_succ m c t)]
  exact stepC h t (sAt m c t.val (Nat.le_of_lt t.isLt)).1 k

theorem sum_next_S (t : Fin cfg0.N) : (sAt m c (t.val + 1) t.isLt).2
    = ((sAt m c t.val (Nat.le_of_lt t.isLt)).2 + ∑ b ∈ Finset.range 256, ext (gS m c) (t.val * 256 + b) : EReal) := by
  rw [snd_of (sAt_succ m c t)]
  exact stepS h t (sAt m c t.val (Nat.le_of_lt t.isLt)).2

theorem sumsC (k : Fin 8192) (n : ℕ) : ∀ hn : n ≤ cfg0.N, (sAt m c n hn).1 (ix2 0 k)
    = (∑ a ∈ Finset.range n, ∑ b ∈ Finset.range 256, ext (gC m c k) (a * 256 + b) : EReal) := by
  induction n with
  | zero => exact fun hn => (sum_zero_C k hn).trans (Finset.sum_range_zero _).symm
  | succ n ih =>
    intro hn
    rw [Finset.sum_range_succ, ← ih (Nat.le_of_succ_le hn)]
    exact sum_next_C h ⟨n, hn⟩ k

theorem sumsS (n : ℕ) : ∀ hn : n ≤ cfg0.N, (sAt m c n hn).2
    = (∑ a ∈ Finset.range n, ∑ b ∈ Finset.range 256, ext (gS m c) (a * 256 + b) : EReal) := by
  induction n with
  | zero => exact fun hn => (sum_zero_S hn).trans (Finset.sum_range_zero _).symm
  | succ n ih =>
    intro hn
    rw [Finset.sum_range_succ, ← ih (Nat.le_of_succ_le hn)]
    exact sum_next_S h ⟨n, hn⟩

theorem sum_C (k : Fin 8192) (n : ℕ) (hn : n ≤ cfg0.N) (e : n = 32) : (sAt m c n hn).1 (ix2 0 k) = (∑ i, gC m c k i : EReal) := by
  rw [sumsC h k n hn, e, ext_sum]

theorem sum_S (n : ℕ) (hn : n ≤ cfg0.N) (e : n = 32) : (sAt m c n hn).2 = (∑ i, gS m c i : EReal) := by
  rw [sumsS h n hn, e, ext_sum]

end

end Cert.KernelIdeal.Hand

end
-- ==== Proof.V.Final.lean ====
/- The arrays the launch leaves, as the reference's values. -/
module

public import proofs.«01_k».proof.Proof.V.Blocks

@[expose] public section

set_option maxRecDepth 16384

noncomputable section

namespace Cert.KernelIdeal.Hand

open scoped Classical
open Cert.KernelIdeal Cert.KernelIdeal.Gen Cert.Spec
open Idealize.ShloMosaic Idealize.ShloMosaic.TcCoe Idealize.ShloMosaic.Tactic
open Idealize.ShloMosaic.Pipeline (Dat Cfg Window)

/-! ## The scalar results of the last point -/

theorem pay1_at (s : Ideal .f32) (j : S1x1.Idx) : k0_pay1 (F := Ideal) s j = loss s := rfl

theorem pay2_at (v : FVec Ideal S1x8192 .f32) (j : S1x1.Idx) : k0_pay2 (F := Ideal) v j = perp fun k => v (ix2 0 k) := by
  have e : k0_pay2 (F := Ideal) v j = Ideal.exp (0 - ∑ k : Fin 8192, share (fun k => v (ix2 0 k)) k
      * Ideal.log (share (fun k => v (ix2 0 k)) k + Ideal.ofBits .f32 0x2EDBE6FF#32)) := by
    unfold share avg
    pointwise [k0_pay2]
    simp only [Fin.sum_univ_one]
    rfl
  rw [e, zero_sub]
  rfl

variable {m : (ℓ : Loc nD τ sig) → Buf (Elt Ideal) ℓ} {c : Dev nD} (h : Real' m c)
include h

theorem at4 (t : Fin cfg0.N) (r : Fin 256) (k : Fin 8192) : oRep (iblk m c 0 t) (iblk m c 1 t) (iblk m c 2 t) (iblk m c 3 t) (ix2 r k)
    = ReferenceIdeal.Hand.rv54 (ar0 m c) (ar1 m c) (ar2 m c) (ar3 m c) (ix2 (at' t.val (t_lt t) r) k) := by
  rw [oRep_at (fb0 h t) (fb1 h t) (fb2 h t) (fb3 h t), mat1_eq, mat2_eq, bia_eq, row_eq,
    ReferenceIdeal.Hand.rep_at (ar0 m c) (ar1 m c) (ar2 m c) (ar3 m c) (fxx h) (fun k d => h.h2 _) fun k => h.h3 _]

theorem at5 (t : Fin cfg0.N) (r : Fin 256) (d : Fin 64) : oZ (iblk m c 0 t) (iblk m c 1 t) (iblk m c 2 t) (iblk m c 3 t) (ix2 r d)
    = ReferenceIdeal.Hand.zflat (ar0 m c) (ar1 m c) (ar2 m c) (ar3 m c) (ix2 (at' t.val (t_lt t) r) d) := by
  rw [oZ_at (fb0 h t) (fb1 h t) (fb2 h t) (fb3 h t), mat1_eq, mat2_eq, bia_eq, row_eq,
    ReferenceIdeal.Hand.zflat_at (ar0 m c) (ar1 m c) (ar2 m c) (ar3 m c) (fxx h) (fun k d => h.h2 _) fun k => h.h3 _]

omit h in
theorem emb4 (t : Fin cfg0.N) (r : Fin 256) (k : Fin 8192) : (win0_4.blk t).view.emb (ix2 r k) = ix2 (at' t.val (t_lt t) r) k := by
  unfold at'
  blk_ext [idx4 t]

omit h in
theorem emb5 (t : Fin cfg0.N) (r : Fin 256) (k : Fin 64) : (win0_5.blk t).view.emb (ix2 r k) = ix2 (at' t.val (t_lt t) r) k := by
  unfold at'
  blk_ext [idx5 t]

omit h in
theorem last6 (t : Fin cfg0.N) (hf : (cfg0.win 6).flush t = true) : t.val + 1 = 32 := by
  have := (flush0_6 t).1 hf
  have := t_lt t
  omega

omit h in
theorem last7 (t : Fin cfg0.N) (hf : (cfg0.win 7).flush t = true) : t.val + 1 = 32 := by
  have := (flush0_7 t).1 hf
  have := t_lt t
  omega

theorem at4' (t : Fin cfg0.N) (y : S256x8192.Idx) : oRep (iblk m c 0 t) (iblk m c 1 t) (iblk m c 2 t) (iblk m c 3 t) y
    = ReferenceIdeal.Hand.rv54 (ar0 m c) (ar1 m c) (ar2 m c) (ar3 m c) ((win0_4.blk t).view.emb y) := by
  have e : ∀ (r : Fin 256) (k : Fin 8192), oRep (iblk m c 0 t) (iblk m c 1 t) (iblk m c 2 t) (iblk m c 3 t) (ix2 r k)
      = ReferenceIdeal.Hand.rv54 (ar0 m c) (ar1 m c) (ar2 m c) (ar3 m c) ((win0_4.blk t).view.emb (ix2 r k)) :=
    fun r k => (at4 h t r k).trans (congrArg _ (emb4 t r k).symm)
  rw [eq_ix2 y]
  exact e _ _

theorem at5' (t : Fin cfg0.N) (y : S256x64.Idx) : oZ (iblk m c 0 t) (iblk m c 1 t) (iblk m c 2 t) (iblk m c 3 t) y
    = ReferenceIdeal.Hand.zflat (ar0 m c) (ar1 m c) (ar2 m c) (ar3 m c) ((win0_5.blk t).view.emb y) := by
  have e : ∀ (r : Fin 256) (k : Fin 64), oZ (iblk m c 0 t) (iblk m c 1 t) (iblk m c 2 t) (iblk m c 3 t) (ix2 r k)
      = ReferenceIdeal.Hand.zflat (ar0 m c) (ar1 m c) (ar2 m c) (ar3 m c) ((win0_5.blk t).view.emb (ix2 r k)) :=
    fun r k => (at5 h t r k).trans (congrArg _ (emb5 t r k).symm)
  rw [eq_ix2 y]
  exact e _ _

theorem at6 (t : Fin cfg0.N) (e : t.val + 1 = 32) (y : S1x1.Idx) : k0_pay1 (F := Ideal) (sAt m c (t.val + 1) t.isLt).2 y = loss (∑ i, gS m c i) := by
  rw [sum_S h _ _ e]
  exact pay1_at _ _

theorem at7 (t : Fin cfg0.N) (e : t.val + 1 = 32) (y : S1x1.Idx) :
    k0_pay2 (F := Ideal) (sAt m c (t.val + 1) t.isLt).1 y = perp fun k => ∑ i, gC m c k i := by
  have e' : (fun k => (sAt m c (t.val + 1) t.isLt).1 (ix2 0 k)) = fun k => ∑ i, gC m c k i := funext fun k => sum_C h k _ _ e
  rw [← e']
  exact pay2_at _ _

theorem final4 : (dats m 0 c).arrAt 4 cfg0.N = ReferenceIdeal.Hand.rv54 (ar0 m c) (ar1 m c) (ar2 m c) (ar3 m c) := by
  refine (dats m 0 c).arrAt_eq_of_covers 4 _ (by decide +kernel) fun t hf y => ?_
  blk_simp
  rw [after0_4]
  exact at4' h t y

theorem final5 : (dats m 0 c).arrAt 5 cfg0.N = ReferenceIdeal.Hand.zflat (ar0 m c) (ar1 m c) (ar2 m c) (ar3 m c) := by
  refine (dats m 0 c).arrAt_eq_of_covers 5 _ (by decide +kernel) fun t hf y => ?_
  blk_simp
  rw [after0_5]
  exact at5' h t y

theorem final6 : (dats m 0 c).arrAt 6 cfg0.N = fun _ : S1x1.Idx => loss (∑ i, gS m c i) := by
  refine (dats m 0 c).arrAt_eq_of_covers 6 _ (by decide +kernel) fun t hf y => ?_
  blk_simp
  rw [after0_6]
  exact at6 h t (last6 t hf) y

theorem final7 : (dats m 0 c).arrAt 7 cfg0.N = fun _ : S1x1.Idx => perp fun k => ∑ i, gC m c k i := by
  refine (dats m 0 c).arrAt_eq_of_covers 7 _ (by decide +kernel) fun t hf y => ?_
  blk_simp
  rw [after0_7]
  exact at7 h t (last7 t hf) y

end Cert.KernelIdeal.Hand

end
-- ==== Proof.V.Tail.lean ====
/- The operations after the launch, read at the kernel's results. -/
module

public import proofs.«01_k».proof.Proof.KI.Run
public import Idealize.ShloMosaic.PureOps.Ideal
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

theorem arr5 : Pipeline.withArrays (cfgs 0).spec c (V0 m c) (fun w => (dats m 0 c).arrAt w (cfgs 0).N) (Proc.tc.devRef main_v5_1)
    = (show FVec Ideal S8192x64 .f32 from (dats m 0 c).arrAt 5 cfg0.N) :=
  Pipeline.withArrays_arr (cfgs 0).spec launch0.win.arr_inj c (V0 m c) (fun w => (dats m 0 c).arrAt w (cfgs 0).N) 5

theorem arr6 : Pipeline.withArrays (cfgs 0).spec c (V0 m c) (fun w => (dats m 0 c).arrAt w (cfgs 0).N) (Proc.tc.devRef main_v5_2)
    = (show FVec Ideal S1x1 .f32 from (dats m 0 c).arrAt 6 cfg0.N) :=
  Pipeline.withArrays_arr (cfgs 0).spec launch0.win.arr_inj c (V0 m c) (fun w => (dats m 0 c).arrAt w (cfgs 0).N) 6

theorem arr7 : Pipeline.withArrays (cfgs 0).spec c (V0 m c) (fun w => (dats m 0 c).arrAt w (cfgs 0).N) (Proc.tc.devRef main_v5_3)
    = (show FVec Ideal S1x1 .f32 from (dats m 0 c).arrAt 7 cfg0.N) :=
  Pipeline.withArrays_arr (cfgs 0).spec launch0.win.arr_inj c (V0 m c) (fun w => (dats m 0 c).arrAt w (cfgs 0).N) 7

theorem tail8 : Pipeline.afterTail₀ cfgs (dats m) 0 (V0 m) [hostOps1] c main_v8
    = shapeCast S_ (show FVec Ideal S1x1 .f32 from (dats m 0 c).arrAt 6 cfg0.N) shapeCasts_S1x1_S_ := by
  unfold Pipeline.afterTail₀
  simp only [List.flatten_cons, List.flatten_nil, List.append_nil]
  unfold hostOps1
  after_results
  exact congrArg (fun x : FVec Ideal S1x1 .f32 => shapeCast S_ x shapeCasts_S1x1_S_) (arr6 m c)

theorem tail9 : Pipeline.afterTail₀ cfgs (dats m) 0 (V0 m) [hostOps1] c main_v9
    = shapeCast S_ (show FVec Ideal S1x1 .f32 from (dats m 0 c).arrAt 7 cfg0.N) shapeCasts_S1x1_S_ := by
  unfold Pipeline.afterTail₀
  simp only [List.flatten_cons, List.flatten_nil, List.append_nil]
  unfold hostOps1
  after_results
  exact congrArg (fun x : FVec Ideal S1x1 .f32 => shapeCast S_ x shapeCasts_S1x1_S_) (arr7 m c)

theorem tail7 : Pipeline.afterTail₀ cfgs (dats m) 0 (V0 m) [hostOps1] c main_v7
    = transpose S8x64x32x32 [0, 3, 1, 2] (shapeCast S8x32x32x64 (show FVec Ideal S8192x64 .f32 from (dats m 0 c).arrAt 5 cfg0.N) shapeCasts_S8192x64_S8x32x32x64) transposes_S8x32x32x64_S8x64x32x32_0_3_1_2 := by
  unfold Pipeline.afterTail₀
  simp only [List.flatten_cons, List.flatten_nil, List.append_nil]
  unfold hostOps1
  after_results
  exact congrArg (fun x : FVec Ideal S8192x64 .f32 => transpose S8x64x32x32 [0, 3, 1, 2] (shapeCast S8x32x32x64 x shapeCasts_S8192x64_S8x32x32x64) transposes_S8x32x32x64_S8x64x32x32_0_3_1_2) (arr5 m c)

end Cert.KernelIdeal.Hand

end
-- ==== Proof.V.Pre.lean ====
/- What the precondition says: every element of the four arguments is a real number. -/
module

public import proofs.«01_k».proof.Pre_finite_args
public import proofs.«01_k».proof.Proof.V.Row
public import proofs.«01_k».proof.Proof.V.Consts
public import Idealize.ShloMosaic.Lib.ReduceAll
public import Idealize.ShloMosaic.Lib.Affine

@[expose] public section

set_option maxRecDepth 16384

noncomputable section

namespace Cert.Pre_finite_args.Hand

open Idealize.ShloMosaic Cert.Pre_finite_args Cert.Spec

/-- The side conditions of the precondition's operations. -/
theorem facts : Cert.Pre_finite_args.Facts where
  bcast_S_S8x64x32x32 := by decide
  reducesTo_S8x64x32x32_S_d0_1_2_3 := by decide
  h_S_ := by decide
  bcast_S_S8192x64 := by decide
  reducesTo_S8192x64_S_d0_1 := by decide
  bcast_S_S8192 := by decide
  reducesTo_S8192_S_d0 := by decide

theorem fin_of_lt {x : EReal} (h : Ideal.cmp .olt (max x (-x)) ⊤ = 1#1) : Fin' x := by
  have h' : max x (-x) < ⊤ := by
    by_contra hn
    simp [Ideal.cmp, hn] at h
  rw [max_lt_iff] at h'
  refine fin_of h'.1.ne fun hb => ?_
  rw [hb] at h'
  exact absurd h'.2 (by simp)

instance : Subsingleton S_.Idx := ⟨fun a b => funext fun i => i.elim0⟩

/-- An array of which every element's magnitude is below infinity holds real numbers. -/
theorem all_fin {s : Shape} {axes : List (Fin s.rank)} (x : FVec Ideal s .f32) (v : FVec Ideal s .f32) (hv : ∀ i, v i = (⊤ : EReal))
    (init : IVec S_ 1) (h : s.ReducesTo axes S_) (hu : 0 < S_.numel) (j : S_.Idx)
    (e : Host.reduce IntOp.andi (cmpf .olt (Host.absf x) v) init h hu j = 1#1) (i : s.Idx) : Fin' (x i) := by
  have h1 := Host.reduce_andi_all (cmpf .olt (Host.absf x) v) init h hu j e i
  have h2 : Ideal.cmp .olt (max (x i) (-(x i))) (v i) = 1#1 := h1
  rw [hv] at h2
  exact fin_of_lt h2

theorem top_at {s : Shape} (h : S_.BroadcastsInDim s (![] : Fin 0 → Fin s.rank)) (i : s.Idx) :
    (broadcastInDim s ![] h (constant (F := Ideal) S_ .f32 0x7F800000#32) i : EReal) = ⊤ :=
  (show broadcastInDim s ![] h (constant (F := Ideal) S_ .f32 0x7F800000#32) i = Ideal.ofBits .f32 0x7F800000#32 from rfl).trans c_top

theorem andi_at {s : Shape} (u v : IVec s 1) (j : s.Idx) (h : andi u v j = 1#1) : u j = 1#1 ∧ v j = 1#1 :=
  IntOp.andi_eq_one.1 h

theorem finite [Facts] (a0 : FVec Ideal S8x64x32x32 .f32) (a1 a2 : FVec Ideal S8192x64 .f32) (a3 : FVec Ideal S8192 .f32)
    (h : fn (F := Ideal) a0 a1 a2 a3 = fun _ => 1#1) :
    (∀ i, Fin' (a0 i)) ∧ (∀ i, Fin' (a1 i)) ∧ (∀ i, Fin' (a2 i)) ∧ ∀ i, Fin' (a3 i) := by
  have h := congrFun h (fun i => i.elim0)
  unfold fn fn_part1 at h
  obtain ⟨h, h3⟩ := andi_at _ _ _ h
  obtain ⟨h, h2⟩ := andi_at _ _ _ h
  obtain ⟨h0, h1⟩ := andi_at _ _ _ h
  exact ⟨all_fin a0 _ (top_at _) _ _ _ _ h0, all_fin a1 _ (top_at _) _ _ _ _ h1, all_fin a2 _ (top_at _) _ _ _ _ h2,
    all_fin a3 _ (top_at _) _ _ _ _ h3⟩

end Cert.Pre_finite_args.Hand

end
-- ==== Proof.Algebraic.lean ====
/- At extended reals, on real arguments, the kernel's four results and the reference's are equal. -/
module

public import proofs.«01_k».proof.Defs
public import proofs.«01_k».proof.Proof.V.Final
public import proofs.«01_k».proof.Proof.V.Tail
public import proofs.«01_k».proof.Proof.V.Pre
public import proofs.«01_k».proof.Proof.Gen.KernelIdeal
public import proofs.«01_k».proof.Proof.Gen.ReferenceIdeal
public import proofs.«01_k».proof.Proof.Gen.ReferenceIdeal.Run
public import Idealize.ShloMosaic.Lib.Claim

@[expose] public section

set_option maxRecDepth 16384

noncomputable section

namespace Cert.Proof

open Idealize.ShloMosaic Idealize.SL.Sem Idealize.ShloMosaic.TcCoe Idealize.ShloMosaic.Tactic
open Cert.KernelIdeal.Hand (ar0 ar1 ar2 ar3 Real')

theorem real_of (m : (ℓ : Loc Cert.KernelIdeal.nD Cert.KernelIdeal.τ Cert.KernelIdeal.sig) → Buf (Elt Ideal) ℓ)
    (hpre : Cert.Pre_KernelIdeal_finite_args (hPre_finite_args := Cert.Pre_finite_args.Hand.facts) m) (c : Dev Cert.KernelIdeal.nD) :
    Real' m c := by
  obtain ⟨h0, h1, h2, h3⟩ := @Cert.Pre_finite_args.Hand.finite Cert.Pre_finite_args.Hand.facts _ _ _ _ (hpre c)
  exact ⟨h0, h1, h2, h3⟩

section
open Cert.KernelIdeal Cert.KernelIdeal.Gen Cert.KernelIdeal.Hand Cert.Spec
variable {m : (ℓ : Loc nD τ sig) → Buf (Elt Ideal) ℓ} {c : Dev nD} (h : Real' m c)
include h

theorem val8 : Pipeline.afterTail₀ cfgs (dats m) 0 (V0 m) [hostOps1] c main_v8
    = ReferenceIdeal.Hand.rv61 (ar0 m c) (ar1 m c) (ar2 m c) (ar3 m c) := by
  rw [tail8, final6 h]
  funext j
  exact (ReferenceIdeal.Hand.rv61_at (ar0 m c) (ar1 m c) (ar2 m c) (ar3 m c) (fxx h) (fun k d => h.h2 _) (fun k => h.h3 _) j).symm

theorem val9 : Pipeline.afterTail₀ cfgs (dats m) 0 (V0 m) [hostOps1] c main_v9
    = ReferenceIdeal.Hand.rv76 (ar0 m c) (ar1 m c) := by
  rw [tail9, final7 h]
  funext j
  exact (ReferenceIdeal.Hand.rv76_at (ar0 m c) (ar1 m c) j).symm

theorem val7 : Pipeline.afterTail₀ cfgs (dats m) 0 (V0 m) [hostOps1] c main_v7
    = ReferenceIdeal.Hand.rv77 (ar0 m c) (ar1 m c) (ar2 m c) (ar3 m c) := by
  rw [tail7, final5 h, ReferenceIdeal.Hand.rv77_eq]

end

/-- The kernel ends with the reference's four values of its arguments, and leaves the arguments as they were. -/
theorem kernel_values (m : (ℓ : Loc Cert.KernelIdeal.nD Cert.KernelIdeal.τ Cert.KernelIdeal.sig) → Buf (Elt Ideal) ℓ)
    (g : Dev Cert.KernelIdeal.nD → PrngReg) (hr : ∀ c, Real' m c) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem (c.tc.loc Cert.KernelIdeal.main_v8) = ReferenceIdeal.Hand.rv61 (ar0 m c) (ar1 m c) (ar2 m c) (ar3 m c)
        ∧ r.2.mem (c.tc.loc Cert.KernelIdeal.main_v7) = ReferenceIdeal.Hand.rv77 (ar0 m c) (ar1 m c) (ar2 m c) (ar3 m c)
        ∧ r.2.mem (c.tc.loc Cert.KernelIdeal.main_v9) = ReferenceIdeal.Hand.rv76 (ar0 m c) (ar1 m c)
        ∧ r.2.mem (c.tc.loc Cert.KernelIdeal.main_v5_0) = ReferenceIdeal.Hand.rv54 (ar0 m c) (ar1 m c) (ar2 m c) (ar3 m c)
        ∧ r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3)) :=
  (θ_run Cert.KernelIdeal.defs _ _).mono
    (fun _ h c => ⟨((h.1 c).2 Cert.KernelIdeal.main_v8 (by decide)).trans (val8 (hr c)),
      ((h.1 c).2 Cert.KernelIdeal.main_v7 (by decide)).trans (val7 (hr c)),
      ((h.1 c).2 Cert.KernelIdeal.main_v9 (by decide)).trans (val9 (hr c)),
      ((h.1 c).1 4).trans (Cert.KernelIdeal.Hand.final4 (hr c)), h.2 c⟩)
    (θ_run_and (Cert.KernelIdeal.Hand.run_main m g) (Cert.KernelIdeal.Hand.unchanged m g))

theorem algebraic : Cert.algebraic_KernelIdeal_ReferenceIdeal_pre_finite_args (hKernelIdeal := Cert.KernelIdeal.Gen.facts)
    (hReferenceIdeal := Cert.ReferenceIdeal.Gen.facts) (hPre_finite_args := Cert.Pre_finite_args.Hand.facts) := by
  intro m g m' g' hpre hagree
  have hr := real_of m hpre
  refine ⟨fun c => ReferenceIdeal.Hand.rv61 (ar0 m c) (ar1 m c) (ar2 m c) (ar3 m c),
    fun c => ReferenceIdeal.Hand.rv77 (ar0 m c) (ar1 m c) (ar2 m c) (ar3 m c),
    fun c => ReferenceIdeal.Hand.rv76 (ar0 m c) (ar1 m c),
    fun c => ReferenceIdeal.Hand.rv54 (ar0 m c) (ar1 m c) (ar2 m c) (ar3 m c), kernel_values m g hr, ?_⟩
  refine (θ_run Cert.ReferenceIdeal.defs _ _).mono (fun r h c => ?_) (Cert.ReferenceIdeal.Value.run m' g')
  obtain ⟨e0, e1, e2, e3⟩ := hagree c
  obtain ⟨h61, h77, h76, h54, ha⟩ := h c
  refine ⟨h61.trans ?_, h77.trans ?_, h76.trans ?_, h54.trans ?_, ha⟩
  · rw [ReferenceIdeal.Hand.res_v61, e0, e1, e2, e3]
  · rw [ReferenceIdeal.Hand.res_v77, e0, e1, e2, e3]
  · rw [ReferenceIdeal.Hand.res_v76, e0, e1]
  · rw [ReferenceIdeal.Hand.res_v54, e0, e1, e2, e3]

end Cert.Proof

end
-- ==== Proof.lean ====
/- The proof of the claim. -/
module

public import proofs.«01_k».proof.Defs
public import proofs.«01_k».proof.Proof.Frames
public import proofs.«01_k».proof.Proof.Algebraic

@[expose] public section

namespace Cert.Proof

theorem claim : Cert.Claim := ⟨Cert.Kernel.Gen.facts, Cert.KernelIdeal.Gen.facts, Cert.ReferenceIdeal.Gen.facts,
  Cert.Pre_finite_args.Hand.facts, frame_p, frame_pi, fun m ρ _ => Cert.KernelIdeal.Hand.frame m ρ, frame_ri,
  fun m ρ _ => frame_ri m ρ trivial, trivial, algebraic⟩

end Cert.Proof

end
